-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S1024 : Shape := ⟨1, ![1024]⟩
abbrev S_ : Shape := ⟨0, ![]⟩
abbrev S576x1024 : Shape := ⟨2, ![576, 1024]⟩
abbrev S9x64x1024 : Shape := ⟨3, ![9, 64, 1024]⟩
abbrev S9 : Shape := ⟨1, ![9]⟩
abbrev S7 : Shape := ⟨1, ![7]⟩
abbrev S1 : Shape := ⟨1, ![1]⟩
abbrev S1x64x1024 : Shape := ⟨3, ![1, 64, 1024]⟩
abbrev S64x1024 : Shape := ⟨2, ![64, 1024]⟩
abbrev S64 : Shape := ⟨1, ![64]⟩
abbrev S64x1 : Shape := ⟨2, ![64, 1]⟩
abbrev S1x1024 : Shape := ⟨2, ![1, 1024]⟩

abbrev nBuf : Space → Nat
  | .hbm => 27
  | .vmem => 5
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1024, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x1024, .bf16⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S576x1024, .bf16⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S576x1024, .bf16⟩
  | .hbm, ⟨26, _⟩ => ⟨S1024x1024, .bf16⟩
  | .local _ .vmem, ⟨0, _⟩ => ⟨S576x1024, .bf16⟩
  | .local _ .vmem, ⟨1, _⟩ => ⟨S576x1024, .bf16⟩
  | .local _ .vmem, ⟨2, _⟩ => ⟨S1024, .bf16⟩
  | .local _ .vmem, ⟨3, _⟩ => ⟨S1024x1024, .bf16⟩
  | .local _ .vmem, ⟨4, _⟩ => ⟨S9x64x1024, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_c_3 : Ref sig .tc := ⟨.hbm, 14, rfl⟩
abbrev main_v8 : Ref sig .tc := ⟨.hbm, 15, rfl⟩
abbrev main_v9 : Ref sig .tc := ⟨.hbm, 16, rfl⟩
abbrev main_c_4 : Ref sig .tc := ⟨.hbm, 17, rfl⟩
abbrev main_v10 : Ref sig .tc := ⟨.hbm, 18, rfl⟩
abbrev main_c_5 : Ref sig .tc := ⟨.hbm, 19, rfl⟩
abbrev main_v11 : Ref sig .tc := ⟨.hbm, 20, rfl⟩
abbrev main_c_6 : Ref sig .tc := ⟨.hbm, 21, rfl⟩
abbrev main_v12 : Ref sig .tc := ⟨.hbm, 22, rfl⟩
abbrev main_v13 : Ref sig .tc := ⟨.hbm, 23, rfl⟩
abbrev main_c_7 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (d0 : Dev nD) (c0_i32_12 : BitVec 32) (c512_i32 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v17 : BitVec 32 := Scalar.muli c512_i32 v2
  let v18 : BitVec 32 := Scalar.addi c0_i32_12 v17
  let c0_i32_21 : BitVec 32 := 0#32
  ![v18.toNat, 0]
def k0_off1_at (r : Fin 9) : BitVec 32 × BitVec 32 :=
  if r.val < 4 then
    if r.val < 2 then
      if r.val < 1 then
        (0#32, 512#32)
      else
        (64#32, 384#32)
    else
      if r.val < 3 then
        (128#32, 256#32)
      else
        (192#32, 128#32)
  else
    if r.val < 6 then
      if r.val < 5 then
        (256#32, 0#32)
      else
        (320#32, 4294967168#32)
    else
      if r.val < 7 then
        (384#32, 4294967040#32)
      else
        if r.val < 8 then
          (448#32, 4294966912#32)
        else
          (512#32, 4294966784#32)
def k0_dev3 (d0 : Dev nD) : Nat :=
  let c0_i32_17 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_16 : BitVec 32 := 2#32
  let v19 : BitVec 32 := Scalar.muli v2 c2_i32_16
  let v20 : BitVec 32 := Scalar.addi c0_i32_17 v19
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_18 : BitVec 32 := 1#32
  let v21 : BitVec 32 := Scalar.muli v6 c1_i32_18
  let v22 : BitVec 32 := Scalar.addi v20 v21
  v22.toNat
def k0_dev4 (d0 : Dev nD) : Nat :=
  let c0_i32_26 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_25 : BitVec 32 := 2#32
  let v32 : BitVec 32 := Scalar.muli v2 c2_i32_25
  let v33 : BitVec 32 := Scalar.addi c0_i32_26 v32
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_27 : BitVec 32 := 1#32
  let v34 : BitVec 32 := Scalar.muli v6 c1_i32_27
  let v35 : BitVec 32 := Scalar.addi v33 v34
  v35.toNat
def k0_dev5 (d0 : Dev nD) : Nat :=
  let c0_i32_35 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_34 : BitVec 32 := 2#32
  let v45 : BitVec 32 := Scalar.muli v2 c2_i32_34
  let v46 : BitVec 32 := Scalar.addi c0_i32_35 v45
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_36 : BitVec 32 := 1#32
  let v47 : BitVec 32 := Scalar.muli v6 c1_i32_36
  let v48 : BitVec 32 := Scalar.addi v46 v47
  v48.toNat
def k0_dev6 (d0 : Dev nD) : Nat :=
  let c0_i32_44 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_43 : BitVec 32 := 2#32
  let v58 : BitVec 32 := Scalar.muli v2 c2_i32_43
  let v59 : BitVec 32 := Scalar.addi c0_i32_44 v58
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_45 : BitVec 32 := 1#32
  let v60 : BitVec 32 := Scalar.muli v6 c1_i32_45
  let v61 : BitVec 32 := Scalar.addi v59 v60
  v61.toNat
def k0_dev7 (d0 : Dev nD) : Nat :=
  let c0_i32_54 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_53 : BitVec 32 := 2#32
  let v71 : BitVec 32 := Scalar.muli v2 c2_i32_53
  let v72 : BitVec 32 := Scalar.addi c0_i32_54 v71
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_55 : BitVec 32 := 1#32
  let v73 : BitVec 32 := Scalar.muli v6 c1_i32_55
  let v74 : BitVec 32 := Scalar.addi v72 v73
  v74.toNat
def k0_dev8 (d0 : Dev nD) : Nat :=
  let c0_i32_62 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_61 : BitVec 32 := 2#32
  let v84 : BitVec 32 := Scalar.muli v2 c2_i32_61
  let v85 : BitVec 32 := Scalar.addi c0_i32_62 v84
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_63 : BitVec 32 := 1#32
  let v86 : BitVec 32 := Scalar.muli v6 c1_i32_63
  let v87 : BitVec 32 := Scalar.addi v85 v86
  v87.toNat
def k0_dev9 (d0 : Dev nD) : Nat :=
  let c0_i32_71 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_70 : BitVec 32 := 2#32
  let v97 : BitVec 32 := Scalar.muli v2 c2_i32_70
  let v98 : BitVec 32 := Scalar.addi c0_i32_71 v97
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_72 : BitVec 32 := 1#32
  let v99 : BitVec 32 := Scalar.muli v6 c1_i32_72
  let v100 : BitVec 32 := Scalar.addi v98 v99
  v100.toNat
def k0_dev10 (d0 : Dev nD) : Nat :=
  let c0_i32_79 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_78 : BitVec 32 := 2#32
  let v110 : BitVec 32 := Scalar.muli v2 c2_i32_78
  let v111 : BitVec 32 := Scalar.addi c0_i32_79 v110
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_80 : BitVec 32 := 1#32
  let v112 : BitVec 32 := Scalar.muli v6 c1_i32_80
  let v113 : BitVec 32 := Scalar.addi v111 v112
  v113.toNat
def k0_dev11 (d0 : Dev nD) : Nat :=
  let c0_i32_88 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_87 : BitVec 32 := 2#32
  let v123 : BitVec 32 := Scalar.muli v2 c2_i32_87
  let v124 : BitVec 32 := Scalar.addi c0_i32_88 v123
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_89 : BitVec 32 := 1#32
  let v125 : BitVec 32 := Scalar.muli v6 c1_i32_89
  let v126 : BitVec 32 := Scalar.addi v124 v125
  v126.toNat
def k0_off2 (d0 : Dev nD) (c0_i32_94 : BitVec 32) (c512_i32_93 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v136 : BitVec 32 := Scalar.muli c512_i32_93 v2
  let v137 : BitVec 32 := Scalar.addi c0_i32_94 v136
  let v149 : Index := Scalar.indexCast v137
  let c0_105 : Index := 0#32
  ![v149.toNat, 0]
def k0_off2_at (r : Fin 9) : BitVec 32 × BitVec 32 :=
  if r.val < 4 then
    if r.val < 2 then
      if r.val < 1 then
        (0#32, 512#32)
      else
        (64#32, 384#32)
    else
      if r.val < 3 then
        (128#32, 256#32)
      else
        (192#32, 128#32)
  else
    if r.val < 6 then
      if r.val < 5 then
        (256#32, 0#32)
      else
        (320#32, 4294967168#32)
    else
      if r.val < 7 then
        (384#32, 4294967040#32)
      else
        if r.val < 8 then
          (448#32, 4294966912#32)
        else
          (512#32, 4294966784#32)
def k0_off3 (d0 : Dev nD) (c0_i32_94 : BitVec 32) (c512_i32_93 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v136 : BitVec 32 := Scalar.muli c512_i32_93 v2
  let v137 : BitVec 32 := Scalar.addi c0_i32_94 v136
  let c448_i32_95 : BitVec 32 := 448#32
  let v138 : BitVec 32 := Scalar.muli c448_i32_95 v2
  let v139 : BitVec 32 := Scalar.addi v137 v138
  let v177 : Index := Scalar.indexCast v139
  let c0_112 : Index := 0#32
  ![v177.toNat, 0]
def k0_off3_at (r : Fin 9) : BitVec 32 × BitVec 32 :=
  if r.val < 4 then
    if r.val < 2 then
      if r.val < 1 then
        (0#32, 512#32)
      else
        (64#32, 384#32)
    else
      if r.val < 3 then
        (128#32, 256#32)
      else
        (192#32, 128#32)
  else
    if r.val < 6 then
      if r.val < 5 then
        (256#32, 0#32)
      else
        (320#32, 4294967168#32)
    else
      if r.val < 7 then
        (384#32, 4294967040#32)
      else
        if r.val < 8 then
          (448#32, 4294966912#32)
        else
          (512#32, 4294966784#32)
def k0_off4 (d0 : Dev nD) (c0_i32_94 : BitVec 32) (c512_i32_93 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v136 : BitVec 32 := Scalar.muli c512_i32_93 v2
  let v137 : BitVec 32 := Scalar.addi c0_i32_94 v136
  let c448_i32_95 : BitVec 32 := 448#32
  let v138 : BitVec 32 := Scalar.muli c448_i32_95 v2
  let v139 : BitVec 32 := Scalar.addi v137 v138
  let c0_i32_118 : BitVec 32 := 0#32
  ![v139.toNat, 0]
def k0_off4_at (r : Fin 7) : BitVec 32 × BitVec 32 :=
  if r.val < 3 then
    if r.val < 1 then
      (0#32, 512#32)
    else
      if r.val < 2 then
        (64#32, 384#32)
      else
        (128#32, 256#32)
  else
    if r.val < 5 then
      if r.val < 4 then
        (192#32, 128#32)
      else
        (256#32, 0#32)
    else
      if r.val < 6 then
        (320#32, 4294967168#32)
      else
        (384#32, 4294967040#32)
def k0_dev12 (d0 : Dev nD) : Nat :=
  let c0_i32_116 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_115 : BitVec 32 := 2#32
  let v179 : BitVec 32 := Scalar.muli v7 c2_i32_115
  let v180 : BitVec 32 := Scalar.addi c0_i32_116 v179
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_117 : BitVec 32 := 1#32
  let v181 : BitVec 32 := Scalar.muli v5 c1_i32_117
  let v182 : BitVec 32 := Scalar.addi v180 v181
  v182.toNat
def k0_dev13 (d0 : Dev nD) : Nat :=
  let c0_i32_143 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_142 : BitVec 32 := 2#32
  let v232 : BitVec 32 := Scalar.muli v7 c2_i32_142
  let v233 : BitVec 32 := Scalar.addi c0_i32_143 v232
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_144 : BitVec 32 := 1#32
  let v234 : BitVec 32 := Scalar.muli v5 c1_i32_144
  let v235 : BitVec 32 := Scalar.addi v233 v234
  v235.toNat
def k0_dev14 (d0 : Dev nD) : Nat :=
  let c0_i32_170 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_169 : BitVec 32 := 2#32
  let v285 : BitVec 32 := Scalar.muli v7 c2_i32_169
  let v286 : BitVec 32 := Scalar.addi c0_i32_170 v285
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_171 : BitVec 32 := 1#32
  let v287 : BitVec 32 := Scalar.muli v5 c1_i32_171
  let v288 : BitVec 32 := Scalar.addi v286 v287
  v288.toNat
def k0_dev15 (d0 : Dev nD) : Nat :=
  let c0_i32_197 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_196 : BitVec 32 := 2#32
  let v338 : BitVec 32 := Scalar.muli v7 c2_i32_196
  let v339 : BitVec 32 := Scalar.addi c0_i32_197 v338
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_198 : BitVec 32 := 1#32
  let v340 : BitVec 32 := Scalar.muli v5 c1_i32_198
  let v341 : BitVec 32 := Scalar.addi v339 v340
  v341.toNat
def k0_dev16 (d0 : Dev nD) : Nat :=
  let c0_i32_224 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_223 : BitVec 32 := 2#32
  let v391 : BitVec 32 := Scalar.muli v7 c2_i32_223
  let v392 : BitVec 32 := Scalar.addi c0_i32_224 v391
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_225 : BitVec 32 := 1#32
  let v393 : BitVec 32 := Scalar.muli v5 c1_i32_225
  let v394 : BitVec 32 := Scalar.addi v392 v393
  v394.toNat
def k0_dev17 (d0 : Dev nD) : Nat :=
  let c0_i32_251 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_250 : BitVec 32 := 2#32
  let v444 : BitVec 32 := Scalar.muli v7 c2_i32_250
  let v445 : BitVec 32 := Scalar.addi c0_i32_251 v444
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_252 : BitVec 32 := 1#32
  let v446 : BitVec 32 := Scalar.muli v5 c1_i32_252
  let v447 : BitVec 32 := Scalar.addi v445 v446
  v447.toNat
def k0_dev18 (d0 : Dev nD) : Nat :=
  let c0_i32_278 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_277 : BitVec 32 := 2#32
  let v497 : BitVec 32 := Scalar.muli v7 c2_i32_277
  let v498 : BitVec 32 := Scalar.addi c0_i32_278 v497
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_279 : BitVec 32 := 1#32
  let v499 : BitVec 32 := Scalar.muli v5 c1_i32_279
  let v500 : BitVec 32 := Scalar.addi v498 v499
  v500.toNat
abbrev stage0_0 : Fin 1 → Memref sig .tc .vmem S576x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S576x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x1024x1024 : Shape := ⟨3, ![2, 1024, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2x1024x1024, .bf16⟩
  | .hbm, ⟨1, _⟩ => ⟨S1024x1024, .bf16⟩
  | .hbm, ⟨2, _⟩ => ⟨S1024, .bf16⟩
  | .hbm, ⟨3, _⟩ => ⟨S2x1024x1024, .f32⟩
  | .hbm, ⟨4, _⟩ => ⟨S1024x1024, .f32⟩
  | .hbm, ⟨5, _⟩ => ⟨S1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S_, .f32⟩
  | .hbm, ⟨17, _⟩ => ⟨S1024x1, .f32⟩
  | .hbm, ⟨18, _⟩ => ⟨S1024x1, .f32⟩
  | .hbm, ⟨19, _⟩ => ⟨S1024x1, .f32⟩
  | .hbm, ⟨20, _⟩ => ⟨S1024x1024, .f32⟩
  | .hbm, ⟨21, _⟩ => ⟨S1024x1024, .f32⟩
  | .hbm, ⟨22, _⟩ => ⟨S1x1024, .f32⟩
  | .hbm, ⟨23, _⟩ => ⟨S1024x1024, .f32⟩
  | .hbm, ⟨24, _⟩ => ⟨S1024x1024, .f32⟩
  | .hbm, ⟨25, _⟩ => ⟨S1024x1024, .bf16⟩
  | _, _ => ⟨S2x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.KernelIdeal.Body.lean ====
/-
  The kernel body as a sequence of steps.

  The printed body is one long list of operations, cut into parts at fixed lengths. Here it is told as
  what it is: a barrier with the two neighbours, nine copies out, nine chunks of rows computed (seven
  of them also sent on), and the waits that end the copies. Each kind of step is written once, for any
  device and any chunk, and `body_eq` states that the printed body is this sequence.
-/
module

public import proofs.«01_k».proof.Proof.Gen.KernelIdeal.Skeleton
public import proofs.«01_k».proof.Proof.Gen.KernelIdeal.Regions
public import proofs.«01_k».proof.Proof.Gen.KernelIdeal.Points

@[expose] public section

noncomputable section

namespace Cert.KernelIdeal.Proof

open Idealize.ShloMosaic Idealize.SL.Sem
open Cert.KernelIdeal Cert.KernelIdeal.Gen

variable {F : FTy → Type} [FloatOps F]

/-- Programs of the kernel's body. -/
abbrev Pg (F : FTy → Type) (α : Type) : Type 1 := Prog (TpuEff nD τ sig (Elt F) Λ₀ .tc) α

/-- The steps `f 0, …, f (n - 1)` in order. -/
def each {E : Type → Type} : (n : ℕ) → (Fin n → Prog E PUnit) → Prog E PUnit
  | 0, _ => pure ⟨⟩
  | n + 1, f => f 0 >>= fun _ => each n fun i => f i.succ

/-- The neighbour along the mesh's second axis. -/
def yN (d : Dev nD) : Dev nD := ⟨k0_dev1 d, k0_dev1_lt d⟩
/-- The neighbour along the mesh's first axis. -/
def xN (d : Dev nD) : Dev nD := ⟨k0_dev2 d, k0_dev2_lt d⟩

/-- Of nine row blocks of a staged argument, the one chunk `i` reads. -/
abbrev rectL (d : Dev nD) (i : Fin 9) : Rect S576x1024 :=
  Rect.unit (s := S576x1024) (k0_off1 d (k0_off1_at i).1 (k0_off1_at i).2) S64x1024.size (k0_off1_inb d i)
/-- Of sixteen row blocks of the result, the one chunk `i` writes. -/
abbrev rectO (d : Dev nD) (i : Fin 9) : Rect S1024x1024 :=
  Rect.unit (s := S1024x1024) (k0_off3 d (k0_off3_at i).1 (k0_off3_at i).2) S64x1024.size (k0_off3_inb d i)
/-- The slots of the receive buffer lie in it. -/
theorem inbR : ∀ (i : Fin 9) (a : Fin 3),
    (![i.val, 0, 0] : Fin 3 → ℕ) a + S1x64x1024.size a ≤ S9x64x1024.size a := by
  decide
/-- The slot of the receive buffer that takes chunk `i`. -/
abbrev rectR (i : Fin 9) : Rect S9x64x1024 :=
  Rect.unit (s := S9x64x1024) ![i.val, 0, 0] S1x64x1024.size (inbR i)
/-- A slot of the receive buffer is made of whole words. -/
theorem wordsR : ∀ i : Fin 9, (rectR i).WholeWords (EltTy.packing .bf16) := by decide
/-- The rows a chunk writes are made of whole words. -/
theorem wordsO : ∀ (d : Dev nD) (i : Fin 9), (rectO d i).WholeWords (EltTy.packing .bf16) := by decide +kernel

theorem inb9 : ∀ (i : Fin 9) (a : Fin 1), (![i.val] : Fin 1 → ℕ) a + S1.size a ≤ S9.size a := by decide
theorem inb7 : ∀ (i : Fin 7) (a : Fin 1), (![i.val] : Fin 1 → ℕ) a + S1.size a ≤ S7.size a := by decide

/-- Semaphore `i` of an array of nine. -/
abbrev sem9 (s : DmaSems sig S9) (i : Fin 9) : DmaSem sig :=
  ((s.slice (Rect.unit (s := S9) ![i.val] S1.size (inb9 i))).squeeze S_ squeezes_S1_S_).sem
/-- Semaphore `i` of an array of seven. -/
abbrev sem7 (s : DmaSems sig S7) (i : Fin 7) : DmaSem sig :=
  ((s.slice (Rect.unit (s := S7) ![i.val] S1.size (inb7 i))).squeeze S_ squeezes_S1_S_).sem

/-- A chunk's place among the nine, of one that is sent on. -/
abbrev up (i : Fin 7) : Fin 9 := i.castLE (by omega)

/-- What a chunk computes, of the weights, the own rows, the received rows and the residual rows. -/
def chunkVal (g : Vec F S1024 .bf16) (p : Vec F S64x1024 .bf16) (q : Vec F S1x64x1024 .bf16)
    (r : Vec F S64x1024 .bf16) : FVec F S64x1024 .bf16 :=
  k0_pay3 (k0_pay1 g) (k0_pay2 p) q r

section Steps

variable (arg0 : Memref sig .tc .vmem S576x1024 .bf16) (harg0 : arg0.IsWhole)
  (arg1 : Memref sig .tc .vmem S576x1024 .bf16) (harg1 : arg1.IsWhole)
  (arg2 : Memref sig .tc .vmem S1024 .bf16) (harg2 : arg2.IsWhole)
  (arg3 : Memref sig .tc .vmem S1024x1024 .bf16) (harg3 : arg3.IsWhole)
  (arg4 : Memref sig .tc .vmem S9x64x1024 .bf16) (harg4 : arg4.IsWhole)
  (arg5 : DmaSems sig S9) (arg6 : DmaSems sig S9) (arg7 : DmaSems sig S7) (arg8 : DmaSems sig S7)

/-- The rows of a staged argument that chunk `i` reads. -/
abbrev rowsL (d : Dev nD) (i : Fin 9) : Memref sig .tc .vmem S64x1024 .bf16 :=
  arg0.slice (rectL d i) (fun _ => rfl)
/-- The rows of the result that chunk `i` writes. -/
abbrev rowsO (d : Dev nD) (i : Fin 9) : Memref sig .tc .vmem S64x1024 .bf16 :=
  arg3.slice (rectO d i) (fun _ => rfl)
/-- Slot `i` of the receive buffer, as rows. -/
abbrev slotR (i : Fin 9) : Memref sig .tc .vmem S64x1024 .bf16 :=
  (arg4.slice (rectR i) (fun _ => rfl)).squeeze S64x1024 squeezes_S1x64x1024_S64x1024

/-- Start copying chunk `i`'s own rows into the neighbour's receive buffer. -/
def sendP (d : Dev nD) (i : Fin 9) : Pg F PUnit :=
  Prog.lift (.enqueueDma (rowsL arg0 d i) (.remote (Dev.tc (yN d)) (slotR arg4 i) (.dma (sem9 arg5 i)))
    (.dma (sem9 arg6 i)) (harg0.wordExact_slice rfl _ (k0_off1_wordsbf16 d i))
    ((harg4.wordExact_slice rfl _ (wordsR i)).reshape _ _) ⟨⟨rfl, Or.inl rfl⟩, trivial⟩)

/-- Wait for chunk `i`'s rows from the neighbour. -/
def waitP (d : Dev nD) (i : Fin 9) : Pg F PUnit :=
  Prog.lift (.waitDma2 (sem9 arg6 i) (rowsL arg0 d i) (slotR arg4 i)
    (harg0.wordExact_slice rfl _ (k0_off1_wordsbf16 d i)) ((harg4.wordExact_slice rfl _ (wordsR i)).reshape _ _))

/-- Compute chunk `i` and write it into the result. -/
def computeC (d : Dev nD) (g : Vec F S1024 .bf16) (i : Fin 9) : Pg F PUnit := do
  let p : Vec F S64x1024 .bf16 ← Prog.lift (.load arg0 (rectL d i).toLoadRect (View.loadsAt_vmem h_S64x1024))
  let q : Vec F S1x64x1024 .bf16 ← Prog.lift (.load arg4 (rectR i).toLoadRect (View.loadsAt_vmem h_S1x64x1024))
  let r : Vec F S64x1024 .bf16 ← Prog.lift (.load arg1 (rectL d i).toLoadRect (View.loadsAt_vmem h_S64x1024))
  let _ : Vec F S64x1024 .bf16 ← Prog.lift (.load arg3 (rectO d i).toLoadRect (View.loadsAt_vmem h_S64x1024))
  Prog.lift (.store arg3 (rectO d i) (chunkVal g p q r) Finset.univ
    (View.stores_vmem h_S64x1024 (harg3.storeExact_slice rfl _ (k0_off3_packedbf16 d i)) (fun _ => rfl)) (.inl rfl))

/-- Start copying chunk `i` of the result into the other neighbour's result. -/
def sendO (d : Dev nD) (i : Fin 7) : Pg F PUnit :=
  Prog.lift (.enqueueDma (rowsO arg3 d (up i)) (.remote (Dev.tc (xN d)) (rowsO arg3 d (up i)) (.dma (sem7 arg7 i)))
    (.dma (sem7 arg8 i)) (harg3.wordExact_slice rfl _ (wordsO d (up i)))
    (harg3.wordExact_slice rfl _ (wordsO d (up i))) ⟨⟨rfl, Or.inl rfl⟩, trivial⟩)

/-- Wait for chunk `i` of the result from the other neighbour. -/
def waitO (d : Dev nD) (i : Fin 7) : Pg F PUnit :=
  Prog.lift (.waitDma2 (sem7 arg8 i) (rowsO arg3 d (up i)) (rowsO arg3 d (up i))
    (harg3.wordExact_slice rfl _ (wordsO d (up i))) (harg3.wordExact_slice rfl _ (wordsO d (up i))))

/-- Wait until chunk `i`'s own rows have left. -/
def doneP (d : Dev nD) (i : Fin 9) : Pg F PUnit :=
  Prog.lift (.waitDma2 (sem9 arg5 i) (slotR arg4 i) (rowsL arg0 d i)
    ((harg4.wordExact_slice rfl _ (wordsR i)).reshape _ _) (harg0.wordExact_slice rfl _ (k0_off1_wordsbf16 d i)))

/-- Wait until chunk `i` of the result has left. -/
def doneO (d : Dev nD) (i : Fin 7) : Pg F PUnit :=
  Prog.lift (.waitDma2 (sem7 arg7 i) (rowsO arg3 d (up i)) (rowsO arg3 d (up i))
    (harg3.wordExact_slice rfl _ (wordsO d (up i))) (harg3.wordExact_slice rfl _ (wordsO d (up i))))

/-- Receive, compute and send on chunk `i`. -/
def relay (d : Dev nD) (g : Vec F S1024 .bf16) (i : Fin 7) : Pg F PUnit := do
  waitP arg0 harg0 arg4 harg4 arg6 d (up i)
  computeC arg0 arg1 arg3 harg3 arg4 d g (up i)
  sendO arg3 harg3 arg7 arg8 d i

/-- The two chunks that both devices of a row compute. -/
abbrev last (i : Fin 2) : Fin 9 := i.natAdd 7

/-- Receive and compute chunk `7 + i`. -/
def local2 (d : Dev nD) (g : Vec F S1024 .bf16) (i : Fin 2) : Pg F PUnit := do
  waitP arg0 harg0 arg4 harg4 arg6 d (last i)
  computeC arg0 arg1 arg3 harg3 arg4 d g (last i)

/-- The body as a sequence of steps. -/
def body : Pg F PUnit := do
  let d : Dev nD ← Prog.lift .deviceId
  semSignalWord (yN d) (sig.barrier 0 rfl) 1#32
  semSignalWord (xN d) (sig.barrier 0 rfl) 1#32
  semWaitWord (sig.barrier 0 rfl) 2#32
  each 9 (sendP arg0 harg0 arg4 harg4 arg5 arg6 d)
  let g : Vec F S1024 .bf16 ← Prog.lift (.load arg2 (Rect.unit (s := S1024) ![0] S1024.size inb_S1024_S1024_0).toLoadRect
    (View.loadsAt_vmem h_S1024))
  each 7 (relay arg0 harg0 arg1 arg3 harg3 arg4 harg4 arg6 arg7 arg8 d g)
  each 2 (local2 arg0 harg0 arg1 arg3 harg3 arg4 harg4 arg6 d g)
  each 7 (waitO arg3 harg3 arg8 d)
  each 9 (doneP arg0 harg0 arg4 harg4 arg5 d)
  each 7 (doneO arg3 harg3 arg7 d)

set_option maxRecDepth 65536 in
/-- The printed body is this sequence of steps. -/
theorem body_eq : cc0_body (F := F) arg0 harg0 arg1 harg1 arg2 harg2 arg3 harg3 arg4 harg4 arg5 arg6 arg7 arg8
    = body arg0 harg0 arg1 arg2 arg3 harg3 arg4 harg4 arg5 arg6 arg7 arg8 := by
  chain_rfl

end Steps

end Cert.KernelIdeal.Proof

end
-- ==== Proof.KernelIdeal.Geometry.lean ====
/-
  Where the chunks lie.

  Nine row blocks of a staged argument are its chunks, in an order that depends on the device's place
  along the first mesh axis; nine slots make the receive buffer; and the nine row blocks of the result
  that a device computes, with the seven that the neighbour along the first axis computes first, are
  all sixteen. Each family of blocks is disjoint and covers its array, for one reason (`cover_of_axis`).
  What a device ends up holding in its result is named here, chunk by chunk and whole.
-/
module

public import proofs.«01_k».proof.Proof.KernelIdeal.Body

@[expose] public section

noncomputable section

namespace Cert.KernelIdeal.Proof

open Idealize.ShloMosaic Idealize.SL.Sem
open Cert.KernelIdeal Cert.KernelIdeal.Gen

variable {F : FTy → Type} [FloatOps F]

/-! ## Neighbours -/

theorem yN_yN : ∀ d : Dev nD, yN (yN d) = d := by decide +kernel
theorem xN_xN : ∀ d : Dev nD, xN (xN d) = d := by decide +kernel
/-- The neighbours along the second axis pair the devices, -/
def yEquiv : Dev nD ≃ Dev nD := ⟨yN, yN, yN_yN, yN_yN⟩
/-- and so do those along the first. -/
def xEquiv : Dev nD ≃ Dev nD := ⟨xN, xN, xN_xN, xN_xN⟩

/-! ## The blocks' places -/

/-- The block of a staged argument that is chunk `i`. -/
def blkL (d : Dev nD) (i : Fin 9) : ℕ := if d.val / 2 = 0 then i.val else 8 - i.val
/-- The block of the result that is chunk `i`. -/
def blkO (d : Dev nD) (i : Fin 9) : ℕ := if d.val / 2 = 0 then i.val else 15 - i.val

theorem offL : ∀ (d : Dev nD) (i : Fin 9),
    k0_off1 d (k0_off1_at i).1 (k0_off1_at i).2 = ![64 * blkL d i, 0] := by decide +kernel
theorem offO : ∀ (d : Dev nD) (i : Fin 9),
    k0_off3 d (k0_off3_at i).1 (k0_off3_at i).2 = ![64 * blkO d i, 0] := by decide +kernel
/-- Neighbours along the second axis read the same rows. -/
theorem rectL_yN (d : Dev nD) (i : Fin 9) : rectL (yN d) i = rectL d i := by
  have h : k0_off1 (yN d) (k0_off1_at i).1 (k0_off1_at i).2 = k0_off1 d (k0_off1_at i).1 (k0_off1_at i).2 := by
    revert d i; decide +kernel
  simp only [rectL, h]

/-! ## Disjoint families that cover -/

section Axis

variable {s : Shape} {T : Type} [Fintype T] (off : T → Fin s.rank → ℕ) (size : Fin s.rank → ℕ)
  (inb : ∀ t a, off t a + size a ≤ s.size a) (a : Fin s.rank) (b : T → ℕ)

omit [Fintype T] in
/-- Equal blocks at different places along an axis do not meet. -/
theorem disjoint_of_axis (ha : ∀ t, off t a = size a * b t) (hb : Function.Injective b) (t t' : T) (h : t ≠ t') :
    Disjoint (Rect.unit (s := s) (off t) size (inb t)).set (Rect.unit (s := s) (off t') size (inb t')).set := by
  refine Rect.unit_disjoint a ?_
  rw [ha, ha, ← Nat.mul_succ, ← Nat.mul_succ]
  rcases Nat.lt_or_gt_of_ne (fun e => h (hb e)) with h' | h'
  · exact .inl (Nat.mul_le_mul_left _ h')
  · exact .inr (Nat.mul_le_mul_left _ h')

/-- Equal blocks at every place along an axis, whole along the others, cover the array. -/
theorem cover_of_axis (ha : ∀ t, off t a = size a * b t) (hs : 0 < size a)
    (hb : ∀ k, size a * k < s.size a → ∃ t, b t = k)
    (ho : ∀ t x, x ≠ a → off t x = 0 ∧ size x = s.size x) :
    (Finset.univ : Finset T).biUnion (fun t => (Rect.unit (s := s) (off t) size (inb t)).set) = Finset.univ := by
  refine Finset.eq_univ_iff_forall.mpr fun i => ?_
  obtain ⟨t, ht⟩ := hb ((i a).val / size a) (lt_of_le_of_lt (Nat.mul_div_le _ _) (i a).isLt)
  refine Finset.mem_biUnion.mpr ⟨t, Finset.mem_univ _, Rect.mem_set_unit.mpr fun x => ?_⟩
  by_cases hx : x = a
  · subst hx
    rw [ha, ht]
    have h := Nat.div_add_mod (i x).val (size x)
    have h' := Nat.mod_lt (i x).val hs
    constructor <;> omega
  · rw [(ho t x hx).1, (ho t x hx).2]
    exact ⟨Nat.zero_le _, by rw [Nat.zero_add]; exact (i x).isLt⟩

end Axis

theorem blkL_inj : ∀ d : Dev nD, Function.Injective (blkL d) := by decide +kernel
theorem blkL_surj : ∀ (d : Dev nD) (k : Fin 9), ∃ i, blkL d i = k.val := by decide +kernel

theorem rectL_disjoint (d : Dev nD) (i i' : Fin 9) (h : i ≠ i') : Disjoint (rectL d i).set (rectL d i').set :=
  disjoint_of_axis (s := S576x1024) (fun i => k0_off1 d (k0_off1_at i).1 (k0_off1_at i).2) S64x1024.size (k0_off1_inb d) (0 : Fin 2) (blkL d)
    (fun t => by rw [offL]; rfl) (blkL_inj d) i i' h
theorem rectL_cover (d : Dev nD) : (Finset.univ : Finset (Fin 9)).biUnion (fun i => (rectL d i).set) = Finset.univ :=
  cover_of_axis (s := S576x1024) (fun i => k0_off1 d (k0_off1_at i).1 (k0_off1_at i).2) S64x1024.size (k0_off1_inb d) (0 : Fin 2) (blkL d)
    (fun t => by rw [offL]; rfl) (by decide)
    (fun k hk => by
      have hk : 64 * k < 576 := hk
      exact blkL_surj d ⟨k, by omega⟩)
    (fun t x hx => by
      rw [offL]; revert x; intro (x : Fin 2) hx
      fin_cases x
      · exact absurd rfl hx
      · exact ⟨rfl, rfl⟩)

theorem rectR_disjoint (i i' : Fin 9) (h : i ≠ i') : Disjoint (rectR i).set (rectR i').set :=
  disjoint_of_axis (s := S9x64x1024) (fun i : Fin 9 => ![i.val, 0, 0]) S1x64x1024.size inbR (0 : Fin 3) (fun i => i.val)
    (fun t => (Nat.one_mul _).symm) Fin.val_injective i i' h
theorem rectR_cover : (Finset.univ : Finset (Fin 9)).biUnion (fun i => (rectR i).set) = Finset.univ :=
  cover_of_axis (s := S9x64x1024) (fun i : Fin 9 => ![i.val, 0, 0]) S1x64x1024.size inbR (0 : Fin 3) (fun i => i.val)
    (fun t => (Nat.one_mul _).symm) (by decide)
    (fun k hk => by
      have hk : 1 * k < 9 := hk
      exact ⟨⟨k, by omega⟩, rfl⟩)
    (fun t x hx => by
      revert x; intro (x : Fin 3) hx
      fin_cases x
      · exact absurd rfl hx
      · exact ⟨rfl, rfl⟩
      · exact ⟨rfl, rfl⟩)

/-- The chunks a result is made of: nine of the device's own, seven of its neighbour's. -/
abbrev Part : Type := Fin 9 ⊕ Fin 7
/-- Where a part lies. -/
abbrev blkP (d : Dev nD) : Part → ℕ := Sum.elim (blkO d) fun j => blkO (xN d) (up j)
/-- Whose it is, and which chunk of its owner's. -/
def owner (d : Dev nD) : Part → Dev nD × Fin 9
  | .inl i => (d, i)
  | .inr j => (xN d, up j)
/-- The rows of a part. -/
abbrev rectP (d : Dev nD) (t : Part) : Rect S1024x1024 := rectO (owner d t).1 (owner d t).2

theorem blkP_eq : ∀ (d : Dev nD) (t : Part), blkO (owner d t).1 (owner d t).2 = blkP d t
  | _, .inl _ => rfl
  | _, .inr _ => rfl
theorem blkP_inj : ∀ d : Dev nD, Function.Injective (blkP d) := by decide +kernel
theorem blkP_surj : ∀ (d : Dev nD) (k : Fin 16), ∃ t, blkP d t = k.val := by decide +kernel

theorem rectP_disjoint (d : Dev nD) (t t' : Part) (h : t ≠ t') : Disjoint (rectP d t).set (rectP d t').set :=
  disjoint_of_axis (s := S1024x1024) (fun t => k0_off3 (owner d t).1 (k0_off3_at (owner d t).2).1 (k0_off3_at (owner d t).2).2) S64x1024.size
    (fun t => k0_off3_inb (owner d t).1 (owner d t).2) (0 : Fin 2) (blkP d)
    (fun t => by rw [offO, blkP_eq]; rfl) (blkP_inj d) t t' h
theorem rectP_cover (d : Dev nD) : (Finset.univ : Finset Part).biUnion (fun t => (rectP d t).set) = Finset.univ :=
  cover_of_axis (s := S1024x1024) (fun t => k0_off3 (owner d t).1 (k0_off3_at (owner d t).2).1 (k0_off3_at (owner d t).2).2) S64x1024.size
    (fun t => k0_off3_inb (owner d t).1 (owner d t).2) (0 : Fin 2) (blkP d)
    (fun t => by rw [offO, blkP_eq]; rfl) (by decide)
    (fun k hk => by
      have hk : 64 * k < 1024 := hk
      exact blkP_surj d ⟨k, by omega⟩)
    (fun t x hx => by
      rw [offO]; revert x; intro (x : Fin 2) hx
      fin_cases x
      · exact absurd rfl hx
      · exact ⟨rfl, rfl⟩)

/-! ## What the chunks hold -/

/-- Rows in the shape of a slot of the receive buffer. -/
def asSlot (v : Vec F S64x1024 .bf16) : Vec F S1x64x1024 .bf16 :=
  shapeCast S1x64x1024 v squeezes_S1x64x1024_S64x1024.numel_eq.symm

/-- A slot read as rows determines what a load of the slot reads. -/
theorem read_slot (m : Memref sig .tc .vmem S9x64x1024 .bf16) (i : Fin 9) (f : m.view.ty.Contents (Elt F)) :
    (m.access (rectR i)).read (Elt F) f = asSlot ((slotR m i).view.read (Elt F) f) := by
  funext j
  show _ = (m.access (rectR i)).read (Elt F) f (Shape.reshapeEquiv _ (Shape.reshapeEquiv _ j))
  rw [Shape.reshapeEquiv_reshapeEquiv, Shape.reshapeEquiv_self]

section Values

variable (P R : Dev nD → Vec F S576x1024 .bf16) (G : Dev nD → Vec F S1024 .bf16)

/-- Chunk `i` of device `d`'s staged argument. -/
def rowsAt (X : Dev nD → Vec F S576x1024 .bf16) (d : Dev nD) (i : Fin 9) : Vec F S64x1024 .bf16 :=
  fun j => X d ((rectL d i).emb j)

/-- Chunk `i` of the result, as device `d` computes it. -/
def outC (d : Dev nD) (i : Fin 9) : Vec F S64x1024 .bf16 :=
  chunkVal (G d) (rowsAt P d i) (asSlot (rowsAt P (yN d) i)) (rowsAt R d i)

/-- A part of device `d`'s result. -/
def outP (d : Dev nD) (t : Part) : Vec F S64x1024 .bf16 := outC P R G (owner d t).1 (owner d t).2

/-- The whole of device `d`'s result. -/
def outV (d : Dev nD) : Vec F S1024x1024 .bf16 := Rect.glue (rectP d) (rectP_cover d) (outP P R G d)

theorem outV_part (d : Dev nD) (t : Part) : (fun j => outV P R G d ((rectP d t).emb j)) = outP P R G d t :=
  funext fun j => Rect.glue_emb (rectP d) (rectP_cover d) (rectP_disjoint d) (outP P R G d) t j

end Values

end Cert.KernelIdeal.Proof

end
-- ==== Proof.KernelIdeal.Protocol.lean ====
/-
  The protocol between the devices.

  A device's barrier takes one unit from each neighbour. The unit of the neighbour along the second axis
  hands over that neighbour's receive slots; the unit of the neighbour along the first axis hands over
  the rows of that neighbour's result that the device will write. Every copy has a cell at its sender
  (paid back with the source) and a cell at its receiver (paid with the rows that landed). Each cell has
  one round. The contents are named from the start: `P`, `R` and `G` are what the devices staged.
-/
module

public import proofs.«01_k».proof.Proof.KernelIdeal.Geometry
public import Idealize.ShloMosaic.Lib.Pipeline.Regions
public import Idealize.ShloMosaic.Lib.Pipeline.Kit
public import Idealize.ShloMosaic.Lib.Rounds
public import Idealize.ShloMosaic.Lib.Rounds.Family
public import Idealize.ShloMosaic.Lib.Tactic
public import Idealize.ShloMosaic.Lib.MemrefSat
public import Idealize.ShloMosaic.Lib.Pipeline.RegionTalk
public import Idealize.ShloMosaic.Harness.Basic

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## Buffers, cells and amounts -/

/-- The staged rows of the first argument, -/
abbrev pB : Memref sig .tc .vmem S576x1024 .bf16 := Memref.whole cc0_stg0_0
/-- of the second, -/
abbrev wB : Memref sig .tc .vmem S576x1024 .bf16 := Memref.whole cc0_stg1_0
/-- the staged weights, -/
abbrev gB : Memref sig .tc .vmem S1024 .bf16 := Memref.whole cc0_stg2_0
/-- the staged result, -/
abbrev oB : Memref sig .tc .vmem S1024x1024 .bf16 := Memref.whole cc0_stg3_0
/-- and the receive buffer. -/
abbrev qB : Memref sig .tc .vmem S9x64x1024 .bf16 := Memref.whole cc0_scratch0

/-- The copies' cells of a device: first copies at the sender and at the receiver, then the results'. -/
abbrev K : Type := (Fin 9 ⊕ Fin 9) ⊕ (Fin 7 ⊕ Fin 7)
abbrev pS (i : Fin 9) : K := .inl (.inl i)
abbrev pR (i : Fin 9) : K := .inl (.inr i)
abbrev oS (j : Fin 7) : K := .inr (.inl j)
abbrev oR (j : Fin 7) : K := .inr (.inr j)

/-- Their semaphores. -/
abbrev ksem : K → DmaSem sig
  | .inl (.inl i) => sem9 cc0_scratch1 i
  | .inl (.inr i) => sem9 cc0_scratch2 i
  | .inr (.inl j) => sem7 cc0_scratch3 j
  | .inr (.inr j) => sem7 cc0_scratch4 j
abbrev osem (k : K) : SemLoc sig := .dma (ksem k)
/-- The barrier's semaphore. -/
abbrev barS : Sem sig := sig.barrier 0 rfl

/-- They are semaphores of the kernel's own, all different, and none the staging's. -/
theorem ownSems : Pipeline.OwnSemFacts spec0 osem := by decide +kernel

abbrev barCell (c : Dev nD) : GSem nD τ sig := ((c : Thread nD τ), .reg barS)
abbrev cell (c : Dev nD) (k : K) : GSem nD τ sig := ((c : Thread nD τ), osem k)

/-- Which copy a semaphore belongs to. -/
def decode : SemLoc sig → Option K := Function.partialInv osem
theorem decode_osem (k : K) : decode (osem k) = some k := Function.partialInv_left ownSems.inj k
theorem osem_ne_bar (k : K) : osem k ≠ .reg barS := fun h => by cases h

/-- What one copy of a chunk counts. -/
abbrev N : ℕ := (slotR qB 0).view.dmaCredit
theorem N_pos : 0 < N := View.dmaCredit_pos _ (by decide)
theorem credit_slot (i : Fin 9) : (slotR qB i).view.dmaCredit = N := rfl
theorem credit_rowsL (d : Dev nD) (i : Fin 9) : (rowsL pB d i).view.dmaCredit = N := rfl
theorem credit_rowsO (d : Dev nD) (i : Fin 9) : (rowsO oB d i).view.dmaCredit = N := rfl

/-! ## The schedule -/

abbrev UT : Type := URounds (GSem nD τ sig) Bool
abbrev UU : Type := UR sig nD τ × UT

local notation "𝕄" => MT nD τ sig Unit (Elt F) ℕ UU ℕ

abbrev EP : Emb (UR sig nD τ) (MT nD τ sig Unit (Elt F) ℕ UU ℕ) := embL
abbrev ER : Emb UT (MT nD τ sig Unit (Elt F) ℕ UU ℕ) := embR

/-- Device `c` holds a memref, at contents not chosen. -/
def anyOwn (c : Dev nD) {sp : Space} {s : Shape} {e : EltTy} (m : Memref sig .tc sp s e) : sProp 𝕄 :=
  iprop(∃ X, owns (c : Thread nD τ) m fullShare X)

variable (P R : Dev nD → Vec F S576x1024 .bf16) (G : Dev nD → Vec F S1024 .bf16)

/-- Paid to device `c`'s barrier: by the neighbour along the second axis (`false`) and the first (`true`). -/
def barPay (c : Dev nD) : Bool → sProp 𝕄
  | false => iprop((bigSep Finset.univ fun i => anyOwn (yN c) (slotR qB i))
      ∗ bigSep Finset.univ fun i => reached ER (cell (yN c) (pR i)) 0)
  | true => iprop((bigSep Finset.univ fun j => anyOwn (xN c) (rowsO oB c (up j)))
      ∗ bigSep Finset.univ fun j => reached ER (cell (xN c) (oR j)) 0)

/-- Paid to device `c`'s cell of a copy: the source back, or the rows that landed. -/
def kPay (c : Dev nD) : K → sProp 𝕄
  | .inl (.inl i) => owns (c : Thread nD τ) (rowsL pB c i) fullShare.left (rowsAt P c i)
  | .inl (.inr i) => owns (c : Thread nD τ) (slotR qB i) fullShare (rowsAt P (yN c) i)
  | .inr (.inl j) => owns (c : Thread nD τ) (rowsO oB c (up j)) fullShare (outC P R G c (up j))
  | .inr (.inr j) => owns (c : Thread nD τ) (rowsO oB (xN c) (up j)) fullShare (outC P R G (xN c) (up j))

instance anyOwn_storable (c : Dev nD) {sp : Space} {s : Shape} {e : EltTy} (m : Memref sig .tc sp s e) :
    BI.Storable (upEmb : UEmb _ 𝕄) (anyOwn (F := F) c m) := by unfold anyOwn; infer_instance
instance barPay_storable (c : Dev nD) (b : Bool) : BI.Storable (upEmb : UEmb _ 𝕄) (barPay (F := F) c b) := by
  cases b <;> (unfold barPay; infer_instance)
instance kPay_storable (c : Dev nD) (k : K) : BI.Storable (upEmb : UEmb _ 𝕄) (kPay P R G c k) := by
  rcases k with (k | k) | (k | k) <;> (unfold kPay; infer_instance)

/-- One round. A barrier has two duties, a copy's cell one. -/
def rd : Schedule (GSem nD τ sig) Bool 𝕄 where
  duties g r := if r = 0 then (if g.2 = .reg barS then Finset.univ else {false}) else ∅
  unitless _ := False
  amount g _ _ := if g.2 = .reg barS then 1 else N
  payload g _ b := if g.2 = .reg barS then barPay g.1.1 b else
    match decode g.2 with
    | some k => kPay P R G g.1.1 k
    | none => iprop(emp)
  amount_pos g _ _ _ := by
    by_cases h : g.2 = .reg barS
    · rw [if_pos h]; exact Nat.one_pos
    · rw [if_neg h]; exact N_pos

instance rd_storable (g : GSem nD τ sig) (r : ℕ) (b : Bool) :
    BI.Storable (upEmb : UEmb _ 𝕄) ((rd P R G).payload g r b) := by
  show BI.Storable upEmb (if g.2 = .reg barS then barPay g.1.1 b else
    match decode g.2 with
    | some k => kPay P R G g.1.1 k
    | none => iprop(emp))
  split
  · infer_instance
  · split <;> infer_instance

section Sched

variable (c : Dev nD) (k : K)

theorem duties_bar : (rd P R G).duties (barCell c) 0 = Finset.univ := by dsimp only [rd]; rw [if_pos rfl, if_pos rfl]
theorem duties_cell : (rd P R G).duties (cell c k) 0 = {false} := by
  dsimp only [rd]; rw [if_pos rfl, if_neg (osem_ne_bar k)]
theorem duties_later (g : GSem nD τ sig) (r : ℕ) (h : 1 ≤ r) : (rd P R G).duties g r = ∅ := by
  dsimp only [rd]; exact if_neg (by omega)
theorem amount_bar (b : Bool) : (rd P R G).amount (barCell c) 0 b = 1 := by dsimp only [rd]; exact if_pos rfl
theorem amount_cell (b : Bool) : (rd P R G).amount (cell c k) 0 b = N := by dsimp only [rd]; exact if_neg (osem_ne_bar k)
theorem expect_bar : (rd P R G).expect (barCell c) 0 = 2 := by
  unfold Schedule.expect Schedule.amountOf
  rw [duties_bar, Finset.sum_congr rfl fun b _ => amount_bar P R G c b]; rfl
theorem expect_cell : (rd P R G).expect (cell c k) 0 = N := by
  unfold Schedule.expect Schedule.amountOf; rw [duties_cell, Finset.sum_singleton, amount_cell]
theorem payload_bar (b : Bool) : (rd P R G).payload (barCell c) 0 b = barPay c b := by dsimp only [rd]; exact if_pos rfl
theorem payload_cell (b : Bool) : (rd P R G).payload (cell c k) 0 b = kPay P R G c k := by
  dsimp only [rd]; rw [if_neg (osem_ne_bar k), decode_osem]
theorem rest_bar : bigSep ((rd P R G).duties (barCell c) 0 \ ∅) (fun b => (rd P R G).payload (barCell c) 0 b)
    = iprop(barPay (F := F) c false ∗ barPay c true) := by
  rw [Finset.sdiff_empty, duties_bar, show (Finset.univ : Finset Bool) = {false, true} from by decide,
    bigSep_insert (by decide), bigSep_singleton, payload_bar, payload_bar]
  rfl
theorem rest_cell : bigSep ((rd P R G).duties (cell c k) 0 \ ∅) (fun b => (rd P R G).payload (cell c k) 0 b)
    = kPay P R G c k := by
  rw [Finset.sdiff_empty, duties_cell, bigSep_singleton, payload_cell]

end Sched

/-! ## What is owed, and in what order -/

/-- The sum of the entries from place `k` on. -/
def tail {M : Type} [AddCommMonoid M] {n : ℕ} (f : Fin n → M) (k : ℕ) : M := ∑ i with k ≤ i.val, f i

theorem tail_step {M : Type} [AddCommMonoid M] {n : ℕ} (f : Fin n → M) (i : Fin n) :
    tail f i.val = tail f (i.val + 1) + f i := by
  unfold tail
  rw [add_comm, show (Finset.univ.filter fun i' : Fin n => i.val ≤ i'.val)
      = insert i (Finset.univ.filter fun i' : Fin n => i.val + 1 ≤ i'.val) from by
    ext x; simp only [Finset.mem_filter, Finset.mem_univ, true_and, Finset.mem_insert, Fin.ext_iff]; omega,
    Finset.sum_insert (by simp)]
theorem tail_end {M : Type} [AddCommMonoid M] {n : ℕ} (f : Fin n → M) : tail f n = 0 := by
  unfold tail
  rw [Finset.filter_false_of_mem fun i _ => Nat.not_le.mpr i.isLt, Finset.sum_empty]

/-- What device `c` owes its neighbours' receiving cells. -/
abbrev dueP (c : Dev nD) (i : Fin 9) : CellTallies nD τ sig Unit := tallyAt (cell (yN c) (pR i)) () N
abbrev dueO (c : Dev nD) (j : Fin 7) : CellTallies nD τ sig Unit := tallyAt (cell (xN c) (oR j)) () N
/-- All that device `c` owes at the start. -/
def O₀ (c : Dev nD) : CellTallies nD τ sig Unit :=
  tail (dueO c) 0 + tail (dueP c) 0 + tallyAt (barCell (xN c)) () 1 + tallyAt (barCell (yN c)) () 1

def L (g : GSem nD τ sig) : Finset Unit := if g.1.2 = .tc then {()} else ∅
/-- The barriers come first, then the first copies' arrivals, then the results'. -/
def lv (g : GSem nD τ sig) (_ : Unit) : ℕ := if g.2 = .reg barS then 1 else
  match decode g.2 with
  | some (.inl (.inr _)) => 2
  | some (.inr (.inr _)) => 3
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_pR (c : Dev nD) (i : Fin 9) (u : Unit) : lv (cell c (pR i)) u = 2 := by
  unfold lv; rw [if_neg (osem_ne_bar _), decode_osem]
theorem lv_oR (c : Dev nD) (j : Fin 7) (u : Unit) : lv (cell c (oR j)) u = 3 := by
  unfold lv; rw [if_neg (osem_ne_bar _), decode_osem]

theorem tally_pos {g g' : GSem nD τ sig} {n : ℕ} {u : Unit}
    (h : 0 < (tallyAt g () n : CellTallies nD τ sig Unit) g' u) : g' = g := by
  rw [tallyAt_apply] at h
  split at h
  · next e => exact e.1
  · exact absurd h (Nat.lt_irrefl 0)

theorem add_pos_or {A B : CellTallies nD τ sig Unit} {g : GSem nD τ sig} {u : Unit} (h : 0 < (A + B) g u) :
    0 < A g u ∨ 0 < B g u := by
  rw [Pi.add_apply, Finsupp.add_apply] at h
  exact Nat.add_pos_iff_pos_or_pos.mp h

theorem tail_pos {n : ℕ} {f : Fin n → CellTallies nD τ sig Unit} {k : ℕ} {g : GSem nD τ sig} {u : Unit}
    (h : 0 < tail f k g u) : ∃ i, 0 < f i g u := by
  by_contra hn
  refine absurd h (Nat.not_lt.mpr (le_of_eq ?_))
  unfold tail
  rw [Finset.sum_apply, Finsupp.finset_sum_apply]
  exact Finset.sum_eq_zero fun i _ => Nat.eq_zero_of_not_pos fun hi => hn ⟨i, hi⟩

/-- Everything in a sum of debts lies on a TensorCore's cell above `b`. -/
def Above (b : ℕ) (O : CellTallies nD τ sig Unit) : Prop := ∀ g u, 0 < O g u → u ∈ L g ∧ b < lv g u

theorem above_add {b : ℕ} {A B : CellTallies nD τ sig Unit} (hA : Above b A) (hB : Above b B) : Above b (A + B) :=
  fun g u h => (add_pos_or h).elim (hA g u) (hB g u)
theorem above_dueP (c : Dev nD) (k : ℕ) : Above 1 (tail (dueP c) k) := fun g u h => by
  obtain ⟨i, h⟩ := tail_pos h
  obtain rfl := tally_pos h
  exact ⟨by rw [L_tc]; exact Finset.mem_singleton_self _, by rw [lv_pR]; decide⟩
theorem above_dueO (c : Dev nD) (k : ℕ) : Above 2 (tail (dueO c) k) := fun g u h => by
  obtain ⟨j, h⟩ := tail_pos h
  obtain rfl := tally_pos h
  exact ⟨by rw [L_tc]; exact Finset.mem_singleton_self _, by rw [lv_oR]; decide⟩
theorem above_bar (c : Dev nD) : Above 0 (tallyAt (barCell c) () 1) := fun g u h => by
  obtain rfl := tally_pos h
  exact ⟨by rw [L_tc]; exact Finset.mem_singleton_self _, by rw [lv_bar]; decide⟩
theorem above_mono {b b' : ℕ} {O : CellTallies nD τ sig Unit} (h : b' ≤ b) (hO : Above b O) : Above b' O :=
  fun g u hg => ⟨(hO g u hg).1, lt_of_le_of_lt h (hO g u hg).2⟩
theorem above_O₀ (c : Dev nD) : Above 0 (O₀ c) :=
  above_add (above_add (above_add (above_mono (by decide) (above_dueO c 0)) (above_mono (by decide) (above_dueP c 0)))
    (above_bar _)) (above_bar _)

/-- A device may wait on a cell that lies no higher than all it owes lies above. -/
theorem mayWait (c : Dev nD) (sm : SemLoc sig) (b : ℕ) (O : CellTallies nD τ sig Unit)
    (hb : lv ((c : Thread nD τ), sm) () ≤ b) (hO : Above b O) :
    (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => (hO g u hg).1)
    (fun p hp => by rw [Finset.mem_singleton.mp hp]; exact hb)
    (fun g u hg => (hO g u hg).2)

end Cert.KernelIdeal.Proof

end
-- ==== Proof.KernelIdeal.Steps.lean ====
/-
  What each step of the body does with the protocol.

  Every rule has the same form: from what the step uses, and what the rest of the program needs of what it
  leaves, the step runs. Sending and awaiting are stated once, for any copy; the steps are their uses.
-/
module

public import proofs.«01_k».proof.Proof.KernelIdeal.Protocol

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

variable (P R : Dev nD → Vec F S576x1024 .bf16) (G : Dev nD → Vec F S1024 .bf16)

/-- Running a program of the kernel's body on device `c`. -/
abbrev run (c : Dev nD) {α : Type} (p : Pg F α) (Q : α → sProp 𝕄) : sProp 𝕄 :=
  wp frame (wpE (defs₀ (F := F)) 𝒱₀ (c : Thread nD τ) none) Set.univ p Q

/-- What every device knows throughout: the invariants of all cells, and the order of the waits. -/
def ctx (κ : GSem nD τ sig → ℕ) : sProp 𝕄 :=
  iprop((bigSep Finset.univ fun c : Dev nD => cellInv ER (rd P R G) (κ (barCell c)) (barCell c))
    ∗ (bigSep Finset.univ fun p : Dev nD × K => cellInv ER (rd P R G) (κ (cell p.1 p.2)) (cell p.1 p.2))
    ∗ levAts L lv)
instance ctx_persistent (κ : GSem nD τ sig → ℕ) : BI.Persistent (ctx P R G κ) := by unfold ctx; infer_instance

section Rules

variable (κ : GSem nD τ sig → ℕ) (c : Dev nD)

theorem ctx_bar (d : Dev nD) : ctx P R G κ ⊢ cellInv ER (rd P R G) (κ (barCell d)) (barCell d) := by
  unfold ctx
  have h : (bigSep Finset.univ fun c : Dev nD => cellInv ER (rd P R G) (κ (barCell c)) (barCell c))
      ⊢ cellInv ER (rd P R G) (κ (barCell d)) (barCell d) := bigSep_elim (Finset.mem_univ d)
  iintro ⟨Hb, -, -⟩
  iapply h
  iexact Hb
theorem ctx_cell (d : Dev nD) (k : K) : ctx P R G κ ⊢ cellInv ER (rd P R G) (κ (cell d k)) (cell d k) := by
  unfold ctx
  have h : (bigSep Finset.univ fun p : Dev nD × K => cellInv ER (rd P R G) (κ (cell p.1 p.2)) (cell p.1 p.2))
      ⊢ cellInv ER (rd P R G) (κ (cell d k)) (cell d k) := bigSep_elim (Finset.mem_univ (d, k))
  iintro ⟨-, Hb, -⟩
  iapply h
  iexact Hb
theorem ctx_lev : ctx P R G κ ⊢ levAts L lv := by
  unfold ctx
  iintro ⟨-, -, H⟩
  iexact H

/-- What device `c` still owes, its waits so far not told. -/
def owe (c : Dev nD) (O : CellTallies nD τ sig Unit) : sProp 𝕄 := iprop(∃ W, owes (c : Thread nD τ) O W)

/-- A run of like steps: each takes its own share and moves a common state on by one. -/
theorem run_each {n : ℕ} (f : Fin n → Pg F PUnit) (S : ℕ → sProp 𝕄) (A B : Fin n → sProp 𝕄)
    (h : ∀ i (Q : PUnit → sProp 𝕄), iprop(S i.val ∗ A i ∗ ((S (i.val + 1) ∗ B i) -∗ Q ⟨⟩)) ⊢ run c (f i) Q)
    (Q : PUnit → sProp 𝕄) :
    iprop(S 0 ∗ bigSep Finset.univ A ∗ ((S n ∗ bigSep Finset.univ B) -∗ Q ⟨⟩)) ⊢ run c (each n f) Q := by
  induction n generalizing S with
  | zero =>
    show _ ⊢ wp _ _ _ (.ret ⟨⟩) Q
    rw [wp_ret, Finset.univ_eq_empty, bigSep_empty, bigSep_empty]
    iintro ⟨HS, -, Hk⟩
    imodintro
    iapply Hk
    isplitl [HS]; · iexact HS
    iempintro
  | succ n ih =>
    show _ ⊢ wp _ _ _ (f 0 >>= fun _ => each n fun i => f i.succ) Q
    rw [wp_bind]
    have hA (X : Fin (n + 1) → sProp 𝕄) :
        bigSep Finset.univ X = iprop(X 0 ∗ bigSep Finset.univ fun i : Fin n => X i.succ) := by
      rw [Fin.univ_succ, Finset.cons_eq_insert, bigSep_insert (by simp), bigSep_map]
      rfl
    rw [hA A, hA B]
    iintro ⟨HS, ⟨HA, HAs⟩, Hk⟩
    iapply (h 0 _)
    rw [Fin.val_zero, Nat.zero_add]
    isplitl [HS]; · iexact HS
    isplitl [HA]; · iexact HA
    iintro ⟨HS, HB⟩
    iapply (ih (fun i => f i.succ) (fun k => S (k + 1)) (fun i => A i.succ) (fun i => B i.succ) (fun i Q => h i.succ Q))
    isplitl [HS]; · iexact HS
    isplitl [HAs]; · iexact HAs
    iintro ⟨HS, HBs⟩
    iapply Hk
    isplitl [HS]; · iexact HS
    isplitl [HB]; · iexact HB
    iexact HBs

/-- Waiting for a copy: its cell's round ends, and what it pays comes. -/
theorem await (k : K) (b : ℕ) (O : CellTallies nD τ sig Unit) (hb : lv (cell c k) () ≤ b) (hO : Above b O)
    {sp sp' : Space} {s s' : Shape} {e e' : EltTy} (src : Memref sig .tc sp' s' e') (dst : Memref sig .tc sp s e)
    {hs : src.view.WordExact} {hd : dst.view.WordExact} (hN : dst.view.dmaCredit = N) (Q : PUnit → sProp 𝕄) :
    iprop(ctx P R G κ ∗ atPos ER (cell c k) 0 ∅ 0 ∗ cred (tallyAt (cell c k) () N) ∗ owe c O
        ∗ ((atPos ER (cell c k) 1 ∅ 0 ∗ owe c O ∗ kPay P R G c k) -∗ Q ⟨⟩))
      ⊢ run c (Prog.lift (.waitDma2 (ksem k) src dst hs hd)) Q := by
  unfold owe
  iintro ⟨#Hc, Hat, Hcr, ⟨%W, HO⟩, Hk⟩
  iapply (Rounds.wp_wait_rest_token 𝒱₀ ER (rd P R G) (c : Thread nD τ) none (κ := κ (cell c k)) (sm := osem k)
      (wpE_waitDma2_eq 𝒱₀ (c : Thread nD τ) none Set.univ) (Set.mem_univ _) () (O := O) (W := W) (R := 0) (m := 0) (T := ∅)
      (by rw [hN, expect_cell, Nat.zero_add])) $$ [Hat Hcr HO]
  · isplitr; · iapply (ctx_cell P R G κ c k); iexact Hc
    isplitl [Hcr]; · rw [hN]; iexact Hcr
    isplitl [HO]; · iexact HO
    isplitr
    · iapply (mayWait c (osem k) b O hb hO)
      iapply (ctx_lev P R G κ); iexact Hc
    iexact Hat
  iintro ⟨HO, Hat, -, Hpay⟩
  ihave Hp := (Entails.of_eq (rest_cell P R G c k)) $$ Hpay
  rw [wp_ret]
  imodintro
  iapply Hk
  isplitl [Hat]; · iexact Hat
  isplitl [HO]; · iexists _; iexact HO
  iexact Hp

/-- Starting a copy: the source goes with it, and the receiver's debt is paid. -/
theorem send (c' : Dev nD) (k k' : K) (O : CellTallies nD τ sig Unit)
    {s : Shape} {e : EltTy} (src dst : Memref sig .tc .vmem s e) {hsc : dst.view.ref.isScScratch = false}
    {hs : src.view.WordExact} {hd : dst.view.WordExact}
    {ht : DmaTarget.Typed .vmem (.dma (ksem k')) (.remote (Dev.tc c' : Thread nD τ) dst (.dma (ksem k)) hsc)}
    (hN : dst.view.dmaCredit = N) (q : PosShare TreeShare) (X : s.Idx → Elt F e)
    (hp : owns (c : Thread nD τ) src q X ⊢ kPay P R G c k) (hp' : owns (c' : Thread nD τ) dst fullShare X ⊢ kPay P R G c' k')
    (Q : PUnit → sProp 𝕄) :
    iprop(ctx P R G κ ∗ owns (c : Thread nD τ) src q X ∗ anyOwn c' dst ∗ owe c (O + tallyAt (cell c' k') () N)
        ∗ dutyTok ER (cell c k) 0 false ∗ reached ER (cell c k) 0 ∗ dutyTok ER (cell c' k') 0 false ∗ reached ER (cell c' k') 0
        ∗ ((cred (tallyAt (cell c k) () N) ∗ owe c O) -∗ Q ⟨⟩))
      ⊢ run c (Prog.lift (.enqueueDma src (.remote (Dev.tc c') dst (.dma (ksem k)) hsc) (.dma (ksem k')) hs hd ht)) Q := by
  have h₁ (f) (hf : src.view.read (Elt F) f = X) :
      ((src.view.loc (c : Thread nD τ) ↦[src.view.set]{q} f) : sProp 𝕄) ⊢ owns (c : Thread nD τ) src q X := by
    subst hf; exact owns_intro _ _ _ _
  have h₂ (f f') (hf : src.view.read (Elt F) f = X) :
      ((dst.view.loc (c' : Thread nD τ) ↦[dst.view.set]{fullShare}
        dst.view.write (Elt F) f' (src.view.read (Elt F) f) Finset.univ) : sProp 𝕄) ⊢ owns (c' : Thread nD τ) dst fullShare X := by
    refine (owns_intro _ _ _ _).trans (Entails.of_eq ?_)
    rw [View.read_write_univ, hf]
  unfold owe anyOwn owns
  iintro ⟨#Hc, ⟨%f, %hf, Hs⟩, ⟨%X', %f', -, Hd⟩, ⟨%W, HO⟩, Ht, Hr, Ht', Hr', Hk⟩
  iapply (Rounds.wp_send_pointsTo 𝒱₀ ER (rd P R G) (c : Thread nD τ) none (c' := (c' : Thread nD τ)) (src := src) (dst := dst)
      (sS := osem k) (sem := osem k') (q := q) (fs := f) (fd := f') (κ₁ := κ (cell c k)) (κ₂ := κ (cell c' k'))
      (r₁ := 0) (r₂ := 0) (d₁ := false) (d₂ := false)
      (by rw [duties_cell]; exact Finset.mem_singleton_self _) (by rw [duties_cell]; exact Finset.mem_singleton_self _)
      () () N hN (amount_cell P R G c k false) (amount_cell P R G c' k' false) O rfl (W := W)
      (by rw [payload_cell]; exact (h₁ f hf).trans hp) (by rw [payload_cell]; exact (h₂ f f' hf).trans hp')) $$ [Hs Hd HO Ht Hr Ht' Hr']
  · isplitr; · iapply (ctx_cell P R G κ c k); iexact Hc
    isplitr; · iapply (ctx_cell P R G κ c' k'); iexact Hc
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hcr, HO⟩
  rw [wp_ret]
  imodintro
  iapply Hk
  isplitl [Hcr]; · iexact Hcr
  iexists W; iexact HO

/-- A load reads part of what a memref holds. -/
theorem load {cs : CoreSpace} {s : Shape} {e : EltTy} (m : Memref sig .tc cs s e) (r : Rect s)
    {hl : m.view.LoadsAt r.toLoadRect} (q : PosShare TreeShare) (X : s.Idx → Elt F e)
    (Q : (r.shape.Idx → Elt F e) → sProp 𝕄) :
    iprop(owns (c : Thread nD τ) m q X ∗ (owns (c : Thread nD τ) m q X -∗ Q fun j => X (r.emb j)))
      ⊢ run c (Prog.lift (.load m r.toLoadRect hl)) Q := by
  unfold owns
  iintro ⟨⟨%f, %hf, Hm⟩, Hk⟩
  iapply (wp_load_rect 𝒱₀ (c : Thread nD τ) none Set.univ (m := m) (r := r) (S := m.view.set) (q := q) (f := f)
    (View.set_slice_subset _ _)) $$ [Hm]
  · iexact Hm
  iintro Hm
  rw [wp_ret]
  imodintro
  rw [show (m.access r).read (Elt F) f = fun j => X (r.emb j) from by subst hf; rfl]
  iapply Hk
  iexists f
  isplitr; · ipureintro; exact hf
  iexact Hm

/-- A load of a slot of the receive buffer reads the rows the slot holds. -/
theorem load_slot (i : Fin 9) {hl : qB.view.LoadsAt (rectR i).toLoadRect} (q : PosShare TreeShare) (X : Vec F S64x1024 .bf16)
    (Q : Vec F S1x64x1024 .bf16 → sProp 𝕄) :
    iprop(owns (c : Thread nD τ) (slotR qB i) q X ∗ (owns (c : Thread nD τ) (slotR qB i) q X -∗ Q (asSlot X)))
      ⊢ run c (Prog.lift (.load qB (rectR i).toLoadRect hl)) Q := by
  unfold owns
  iintro ⟨⟨%f, %hf, Hm⟩, Hk⟩
  iapply (wp_load_rect 𝒱₀ (c : Thread nD τ) none Set.univ (m := qB) (r := rectR i) (S := (slotR qB i).view.set) (q := q) (f := f)
    (Finset.Subset.trans (subset_of_eq (View.set_reshape _ _).symm) subset_rfl)) $$ [Hm]
  · iexact Hm
  iintro Hm
  rw [wp_ret]
  imodintro
  rw [read_slot qB i f, hf]
  iapply Hk
  iexists f
  isplitr; · ipureintro; exact hf
  iexact Hm

/-- A load of rows of the result, whose value is not used, needs only those rows. -/
theorem load_rows (i : Fin 9) {hl : oB.view.LoadsAt (rectO c i).toLoadRect} (Q : Vec F S64x1024 .bf16 → sProp 𝕄) :
    iprop(anyOwn c (rowsO oB c i) ∗ (∀ v, anyOwn c (rowsO oB c i) -∗ Q v))
      ⊢ run c (Prog.lift (.load oB (rectO c i).toLoadRect hl)) Q := by
  unfold anyOwn owns
  iintro ⟨⟨%X, %f, %hf, Hm⟩, Hk⟩
  iapply (wp_load_rect 𝒱₀ (c : Thread nD τ) none Set.univ (m := oB) (r := rectO c i) (S := (rowsO oB c i).view.set)
    (q := fullShare) (f := f) subset_rfl) $$ [Hm]
  · iexact Hm
  iintro Hm
  rw [wp_ret]
  imodintro
  iapply Hk
  iexists X; iexists f
  isplitr; · ipureintro; exact hf
  iexact Hm

/-- A store of rows of the result. -/
theorem store_rows (i : Fin 9) (w : Vec F S64x1024 .bf16) {hx : (oB.access (rectO c i)).Stores Finset.univ}
    {hm : (Finset.univ : Finset (rectO c i).shape.Idx) = Finset.univ ∨ ∀ a, (rectO c i).stride a = 1} (Q : PUnit → sProp 𝕄) :
    iprop(anyOwn c (rowsO oB c i) ∗ (owns (c : Thread nD τ) (rowsO oB c i) fullShare w -∗ Q ⟨⟩))
      ⊢ run c (Prog.lift (.store oB (rectO c i) w Finset.univ hx hm)) Q := by
  unfold anyOwn owns
  iintro ⟨⟨%X, %f, %hf, Hm⟩, Hk⟩
  iapply (wp_store 𝒱₀ (c : Thread nD τ) none Set.univ (m := oB) (r := rectO c i) (S := (rowsO oB c i).view.set)
    (f := f) subset_rfl) $$ [Hm]
  · iexact Hm
  iintro Hm
  rw [wp_ret]
  imodintro
  iapply Hk
  iexists _
  isplitr; rotate_left; · iexact Hm
  ipureintro
  exact View.read_write_univ _ _

end Rules

end Cert.KernelIdeal.Proof

end
-- ==== Proof.KernelIdeal.BodyRun.lean ====
/-
  The phases of the kernel's body on one device: the meeting at the barrier, the sends, the receipts
  and the writing of the result, each as a step the whole run is put together from.
-/
module

public import proofs.«01_k».proof.Proof.KernelIdeal.Steps

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (P R : Dev nD → Vec F S576x1024 .bf16) (G : Dev nD → Vec F S1024 .bf16)
variable (κ : GSem nD τ sig → ℕ) (c : Dev nD)

/-! ## The steps -/

theorem above_zero (b : ℕ) : Above b 0 := fun g u h => absurd h (Nat.lt_irrefl 0)

theorem run_bind {α β : Type} (p : Pg F α) (k : α → Pg F β) (Q : β → sProp 𝕄) :
    run c (p >>= k) Q = run c p fun a => run c (k a) Q := wp_bind _ _ _ p k Q

theorem run_device (Q : Dev nD → sProp 𝕄) : Q c ⊢ run c (Prog.lift .deviceId) Q := by
  show _ ⊢ run c (.op .deviceId .ret) Q
  unfold run
  rw [wp_deviceId, wp_ret]
  iintro H; imodintro; iexact H

theorem run_signal (c' : Dev nD) (b : Bool) (O : CellTallies nD τ sig Unit) (Q : PUnit → sProp 𝕄) :
    iprop(ctx P R G κ ∗ owe c (O + tallyAt (barCell c') () 1) ∗ dutyTok ER (barCell c') 0 b ∗ barPay c' b
        ∗ reached ER (barCell c') 0 ∗ (owe c O -∗ Q ⟨⟩))
      ⊢ run c (semSignalWord c' barS 1#32) Q := by
  show _ ⊢ run c (.op (.semSignal (Dev.tc c') barS ((1 : ℕ) : ℤ)) .ret) Q
  unfold owe
  iintro ⟨#Hc, ⟨%W, HO⟩, Ht, Hp, Hr, Hk⟩
  iapply (Rounds.wp_signal 𝒱₀ ER (rd P R G) (c : Thread nD τ) none (dst := (c' : Thread nD τ)) (sem := barS) (r := 0) (d := b)
      (κ := κ (barCell c')) (by rw [duties_bar]; exact Finset.mem_univ _) (amount_bar P R G c' b) () O rfl (W := W)) $$ [HO Ht Hp Hr]
  · isplitr; · iapply (ctx_bar P R G κ c'); iexact Hc
    isplitl [HO]; · iexact HO
    isplitl [Ht]; · iexact Ht
    isplitl [Hp]; · rw [payload_bar]; iexact Hp
    iexact Hr
  iintro HO
  rw [wp_ret]
  imodintro
  iapply Hk
  iexists W; iexact HO

theorem run_barrier (O : CellTallies nD τ sig Unit) (hO : Above 1 O) (Q : PUnit → sProp 𝕄) :
    iprop(ctx P R G κ ∗ atPos ER (barCell c) 0 ∅ 0 ∗ cred (tallyAt (barCell c) () 2) ∗ owe c O
        ∗ ((atPos ER (barCell c) 1 ∅ 0 ∗ owe c O ∗ barPay c false ∗ barPay c true) -∗ Q ⟨⟩))
      ⊢ run c (semWaitWord barS 2#32) Q := by
  show _ ⊢ run c (.op (.semWait barS ((2 : ℕ) : ℤ)) .ret) Q
  unfold owe
  iintro ⟨#Hc, Hat, Hcr, ⟨%W, HO⟩, Hk⟩
  iapply (Rounds.wp_wait_rest_token 𝒱₀ ER (rd P R G) (c : Thread nD τ) none (κ := κ (barCell c)) (sm := .reg barS) (k' := 2)
      (wpE_semWait_eq 𝒱₀ (c : Thread nD τ) none Set.univ) (Set.mem_univ _) () (O := O) (W := W) (R := 0) (m := 0) (T := ∅)
      (by rw [expect_bar])) $$ [Hat Hcr HO]
  · isplitr; · iapply (ctx_bar P R G κ c); iexact Hc
    isplitl [Hcr]; · iexact Hcr
    isplitl [HO]; · iexact HO
    isplitr
    · iapply (mayWait c (.reg barS) 1 O (le_of_eq (lv_bar c ())) hO)
      iapply (ctx_lev P R G κ); iexact Hc
    iexact Hat
  iintro ⟨HO, Hat, -, Hpay⟩
  ihave Hp := (Entails.of_eq (rest_bar P R G c)) $$ Hpay
  icases Hp with ⟨Hp, Hp'⟩
  rw [wp_ret]
  imodintro
  iapply Hk
  isplitl [Hat]; · iexact Hat
  isplitl [HO]; · iexists _; iexact HO
  isplitl [Hp]; · iexact Hp
  iexact Hp'

/-- What a wait needs, and what it leaves. -/
def before (k : K) : sProp 𝕄 := iprop(atPos ER (cell c k) 0 ∅ 0 ∗ cred (tallyAt (cell c k) () N))
def afterK (k : K) : sProp 𝕄 := iprop(atPos ER (cell c k) 1 ∅ 0 ∗ kPay P R G c k)

/-- What starting copy `k` to cell `k'` of device `c'` needs beside the buffers. -/
def toks (c' : Dev nD) (k k' : K) : sProp 𝕄 :=
  iprop(dutyTok ER (cell c k) 0 false ∗ reached ER (cell c k) 0 ∗ dutyTok ER (cell c' k') 0 false ∗ reached ER (cell c' k') 0)

/-- Waits in a row, with nothing owed. -/
theorem run_awaits {n : ℕ} (f : Fin n → Pg F PUnit) (kk : Fin n → K)
    (hf : ∀ i (Q : PUnit → sProp 𝕄), iprop(ctx P R G κ ∗ atPos ER (cell c (kk i)) 0 ∅ 0 ∗ cred (tallyAt (cell c (kk i)) () N)
        ∗ owe c 0 ∗ ((atPos ER (cell c (kk i)) 1 ∅ 0 ∗ owe c 0 ∗ kPay P R G c (kk i)) -∗ Q ⟨⟩)) ⊢ run c (f i) Q)
    (Q : PUnit → sProp 𝕄) :
    iprop(ctx P R G κ ∗ owe c 0 ∗ (bigSep Finset.univ fun i => before c (kk i))
        ∗ ((owe c 0 ∗ bigSep Finset.univ fun i => afterK P R G c (kk i)) -∗ Q ⟨⟩))
      ⊢ run c (each n f) Q := by
  iintro ⟨#Hc, HO, HA, Hk⟩
  iapply (run_each c f (fun _ => owe c 0) (fun i => iprop(ctx P R G κ ∗ before c (kk i))) (fun i => afterK P R G c (kk i))
    (fun i Q => by
      unfold before afterK
      iintro ⟨HO, ⟨#Hc, Hat, Hcr⟩, Hk⟩
      iapply (hf i Q)
      isplitr; · iexact Hc
      isplitl [Hat]; · iexact Hat
      isplitl [Hcr]; · iexact Hcr
      isplitl [HO]; · iexact HO
      iintro ⟨Hat, HO, Hp⟩
      iapply Hk
      isplitl [HO]; · iexact HO
      isplitl [Hat]; · iexact Hat
      iexact Hp) Q)
  isplitl [HO]; · iexact HO
  isplitl [HA]
  · iapply (bigSep_with_persistent (R := ctx P R G κ) (Φ := fun i => before c (kk i)) (S := Finset.univ) fun i _ => BI.Entails.refl _)
    isplitr; · iexact Hc
    iexact HA
  iexact Hk

section Body

variable (h0 : pB.IsWhole) (h1 : wB.IsWhole) (h2 : gB.IsWhole) (h3 : oB.IsWhole) (h4 : qB.IsWhole)

theorem run_sendP (O : CellTallies nD τ sig Unit) (i : Fin 9) (Q : PUnit → sProp 𝕄) :
    iprop(ctx P R G κ ∗ owns (c : Thread nD τ) (rowsL pB c i) fullShare.left (rowsAt P c i) ∗ anyOwn (yN c) (slotR qB i)
        ∗ owe c (O + dueP c i) ∗ toks c (yN c) (pS i) (pR i)
        ∗ ((cred (tallyAt (cell c (pS i)) () N) ∗ owe c O) -∗ Q ⟨⟩))
      ⊢ run c (sendP pB h0 qB h4 cc0_scratch1 cc0_scratch2 c i) Q := by
  unfold sendP toks
  iintro ⟨#Hc, Hs, Hd, HO, ⟨Ht, Hr, Ht', Hr'⟩, Hk⟩
  iapply (send P R G κ c (yN c) (pS i) (pR i) O (rowsL pB c i) (slotR qB i) (credit_slot i) fullShare.left (rowsAt P c i)
    (BI.Entails.refl _) (by unfold kPay; rw [yN_yN]) Q)
  isplitr; · iexact Hc
  isplitl [Hs]; · iexact Hs
  isplitl [Hd]; · iexact Hd
  isplitl [HO]; · iexact HO
  isplitl [Ht]; · iexact Ht
  isplitl [Hr]; · iexact Hr
  isplitl [Ht']; · iexact Ht'
  isplitl [Hr']; · iexact Hr'
  iexact Hk

theorem run_sendO (O : CellTallies nD τ sig Unit) (i : Fin 7) (Q : PUnit → sProp 𝕄) :
    iprop(ctx P R G κ ∗ owns (c : Thread nD τ) (rowsO oB c (up i)) fullShare (outC P R G c (up i))
        ∗ anyOwn (xN c) (rowsO oB c (up i)) ∗ owe c (O + dueO c i) ∗ toks c (xN c) (oS i) (oR i)
        ∗ ((cred (tallyAt (cell c (oS i)) () N) ∗ owe c O) -∗ Q ⟨⟩))
      ⊢ run c (sendO oB h3 cc0_scratch3 cc0_scratch4 c i) Q := by
  unfold sendO toks
  iintro ⟨#Hc, Hs, Hd, HO, ⟨Ht, Hr, Ht', Hr'⟩, Hk⟩
  iapply (send P R G κ c (xN c) (oS i) (oR i) O (rowsO oB c (up i)) (rowsO oB c (up i)) (credit_rowsO c (up i)) fullShare
    (outC P R G c (up i)) (BI.Entails.refl _) (by unfold kPay; rw [xN_xN]) Q)
  isplitr; · iexact Hc
  isplitl [Hs]; · iexact Hs
  isplitl [Hd]; · iexact Hd
  isplitl [HO]; · iexact HO
  isplitl [Ht]; · iexact Ht
  isplitl [Hr]; · iexact Hr
  isplitl [Ht']; · iexact Ht'
  isplitl [Hr']; · iexact Hr'
  iexact Hk

/-- The two staged arguments, as the chunks read them. -/
def staged (c : Dev nD) : sProp 𝕄 :=
  iprop(owns (c : Thread nD τ) pB fullShare.right (P c) ∗ owns (c : Thread nD τ) wB fullShare (R c))

/-- Computing a chunk. -/
theorem run_compute (i : Fin 9) (Q : PUnit → sProp 𝕄) :
    iprop(staged P R c ∗ owns (c : Thread nD τ) (slotR qB i) fullShare (rowsAt P (yN c) i) ∗ anyOwn c (rowsO oB c i)
        ∗ ((staged P R c ∗ owns (c : Thread nD τ) (slotR qB i) fullShare (rowsAt P (yN c) i)
            ∗ owns (c : Thread nD τ) (rowsO oB c i) fullShare (outC P R G c i)) -∗ Q ⟨⟩))
      ⊢ run c (computeC pB wB oB h3 qB c (G c) i) Q := by
  unfold computeC staged
  simp only [run_bind]
  iintro ⟨⟨Hp, Hw⟩, Hq, Ho, Hk⟩
  iapply (load c pB (rectL c i) fullShare.right (P c) _)
  isplitl [Hp]; · iexact Hp
  iintro Hp
  iapply (load_slot c i fullShare (rowsAt P (yN c) i) _)
  isplitl [Hq]; · iexact Hq
  iintro Hq
  iapply (load c wB (rectL c i) fullShare (R c) _)
  isplitl [Hw]; · iexact Hw
  iintro Hw
  iapply (load_rows c i _)
  isplitl [Ho]; · iexact Ho
  iintro %v Ho
  iapply (store_rows c i (outC P R G c i) Q)
  isplitl [Ho]; · iexact Ho
  iintro Ho
  iapply Hk
  isplitl [Hp Hw]
  · isplitl [Hp]; · iexact Hp
    iexact Hw
  isplitl [Hq]; · iexact Hq
  iexact Ho

/-- Receiving a chunk's rows, and computing it. -/
theorem run_local (O : CellTallies nD τ sig Unit) (hO : Above 2 O) (i : Fin 9) (Q : PUnit → sProp 𝕄) :
    iprop(ctx P R G κ ∗ owe c O ∗ staged P R c ∗ before c (pR i) ∗ anyOwn c (rowsO oB c i)
        ∗ ((owe c O ∗ staged P R c ∗ afterK P R G c (pR i)
            ∗ owns (c : Thread nD τ) (rowsO oB c i) fullShare (outC P R G c i)) -∗ Q ⟨⟩))
      ⊢ run c (waitP pB h0 qB h4 cc0_scratch2 c i >>= fun _ => computeC pB wB oB h3 qB c (G c) i) Q := by
  rw [run_bind]
  unfold waitP before afterK
  iintro ⟨#Hc, HO, Hst, ⟨Hat, Hcr⟩, Ho, Hk⟩
  iapply (await P R G κ c (pR i) 2 O (le_of_eq (lv_pR c i ())) hO (rowsL pB c i) (slotR qB i) (credit_slot i) _)
  isplitr; · iexact Hc
  isplitl [Hat]; · iexact Hat
  isplitl [Hcr]; · iexact Hcr
  isplitl [HO]; · iexact HO
  iintro ⟨Hat, HO, Hq⟩
  unfold kPay
  iapply (run_compute P R G c h3 i Q)
  isplitl [Hst]; · iexact Hst
  isplitl [Hq]; · iexact Hq
  isplitl [Ho]; · iexact Ho
  iintro ⟨Hst, Hq, Ho⟩
  iapply Hk
  isplitl [HO]; · iexact HO
  isplitl [Hst]; · iexact Hst
  isplitl [Hat Hq]
  · isplitl [Hat]; · iexact Hat
    iexact Hq
  iexact Ho

/-- The nine, as the seven that are sent on and the last two. -/
theorem bigSep_nine (Φ : Fin 9 → sProp 𝕄) :
    bigSep Finset.univ Φ = iprop((bigSep Finset.univ fun i : Fin 7 => Φ (up i)) ∗ bigSep Finset.univ fun i : Fin 2 => Φ (last i)) := by
  rw [BI.bigSep_univ_equiv (finSumFinEquiv (m := 7) (n := 2)) Φ, BI.bigSep_univ_sum]
  rfl

/-- All cells of a device, by kind. -/
theorem bigSep_K (Φ : K → sProp 𝕄) :
    bigSep Finset.univ Φ = iprop(((bigSep Finset.univ fun i => Φ (pS i)) ∗ bigSep Finset.univ fun i => Φ (pR i))
      ∗ (bigSep Finset.univ fun j => Φ (oS j)) ∗ bigSep Finset.univ fun j => Φ (oR j)) := by
  rw [BI.bigSep_univ_sum, BI.bigSep_univ_sum, BI.bigSep_univ_sum]
  rfl

/-! ## The phases -/

theorem phase_sendP (O : CellTallies nD τ sig Unit) (Q : PUnit → sProp 𝕄) :
    iprop(ctx P R G κ ∗ owe c (O + tail (dueP c) 0)
        ∗ (bigSep Finset.univ fun i => owns (c : Thread nD τ) (rowsL pB c i) fullShare.left (rowsAt P c i))
        ∗ (bigSep Finset.univ fun i => anyOwn (yN c) (slotR qB i)) ∗ (bigSep Finset.univ fun i => toks c (yN c) (pS i) (pR i))
        ∗ ((owe c O ∗ bigSep Finset.univ fun i => cred (tallyAt (cell c (pS i)) () N)) -∗ Q ⟨⟩))
      ⊢ run c (each 9 (sendP pB h0 qB h4 cc0_scratch1 cc0_scratch2 c)) Q := by
  iintro ⟨#Hc, HO, Hs, Hd, Ht, Hk⟩
  iapply (run_each c _ (fun k => iprop(ctx P R G κ ∗ owe c (O + tail (dueP c) k)))
    (fun i => iprop(owns (c : Thread nD τ) (rowsL pB c i) fullShare.left (rowsAt P c i) ∗ anyOwn (yN c) (slotR qB i)
      ∗ toks c (yN c) (pS i) (pR i))) (fun i => cred (tallyAt (cell c (pS i)) () N))
    (fun i Q => by
      rw [tail_step, ← add_assoc]
      iintro ⟨⟨#Hc, HO⟩, ⟨Hs, Hd, Ht⟩, Hk⟩
      iapply (run_sendP P R G κ c h0 h4 (O + tail (dueP c) (i.val + 1)) i Q)
      isplitr; · iexact Hc
      isplitl [Hs]; · iexact Hs
      isplitl [Hd]; · iexact Hd
      isplitl [HO]; · iexact HO
      isplitl [Ht]; · iexact Ht
      iintro ⟨Hcr, HO⟩
      iapply Hk
      isplitl [HO]
      · isplitr; · iexact Hc
        iexact HO
      iexact Hcr) Q)
  isplitl [HO]
  · isplitr; · iexact Hc
    iexact HO
  isplitl [Hs Hd Ht]
  · rw [bigSep_sep', bigSep_sep']
    isplitl [Hs]; · iexact Hs
    isplitl [Hd]; · iexact Hd
    iexact Ht
  rw [tail_end, add_zero]
  iintro ⟨⟨-, HO⟩, Hcr⟩
  iapply Hk
  isplitl [HO]; · iexact HO
  iexact Hcr

theorem phase_relay (Q : PUnit → sProp 𝕄) :
    iprop(ctx P R G κ ∗ owe c (tail (dueO c) 0) ∗ staged P R c
        ∗ (bigSep Finset.univ fun j => before c (pR (up j))) ∗ (bigSep Finset.univ fun j => anyOwn c (rowsO oB c (up j)))
        ∗ (bigSep Finset.univ fun j => anyOwn (xN c) (rowsO oB c (up j))) ∗ (bigSep Finset.univ fun j => toks c (xN c) (oS j) (oR j))
        ∗ ((owe c 0 ∗ staged P R c ∗ (bigSep Finset.univ fun j => afterK P R G c (pR (up j)))
            ∗ bigSep Finset.univ fun j => cred (tallyAt (cell c (oS j)) () N)) -∗ Q ⟨⟩))
      ⊢ run c (each 7 (relay pB h0 wB oB h3 qB h4 cc0_scratch2 cc0_scratch3 cc0_scratch4 c (G c))) Q := by
  iintro ⟨#Hc, HO, Hst, Hb, Ho, Hd, Ht, Hk⟩
  iapply (run_each c _ (fun k => iprop(ctx P R G κ ∗ owe c (tail (dueO c) k) ∗ staged P R c))
    (fun j => iprop(before c (pR (up j)) ∗ anyOwn c (rowsO oB c (up j)) ∗ anyOwn (xN c) (rowsO oB c (up j))
      ∗ toks c (xN c) (oS j) (oR j)))
    (fun j => iprop(afterK P R G c (pR (up j)) ∗ cred (tallyAt (cell c (oS j)) () N)))
    (fun j Q => by
      rw [show relay pB h0 wB oB h3 qB h4 cc0_scratch2 cc0_scratch3 cc0_scratch4 c (G c) j
        = ((waitP pB h0 qB h4 cc0_scratch2 c (up j) >>= fun _ => computeC pB wB oB h3 qB c (G c) (up j))
          >>= fun _ => sendO oB h3 cc0_scratch3 cc0_scratch4 c j) from rfl, run_bind]
      iintro ⟨⟨#Hc, HO, Hst⟩, ⟨Hb, Ho, Hd, Ht⟩, Hk⟩
      iapply (run_local P R G κ c h0 h3 h4 (tail (dueO c) j.val) (above_dueO c _) (up j) _)
      isplitr; · iexact Hc
      isplitl [HO]; · iexact HO
      isplitl [Hst]; · iexact Hst
      isplitl [Hb]; · iexact Hb
      isplitl [Ho]; · iexact Ho
      iintro ⟨HO, Hst, Ha, Ho⟩
      rw [tail_step]
      iapply (run_sendO P R G κ c h3 (tail (dueO c) (j.val + 1)) j Q)
      isplitr; · iexact Hc
      isplitl [Ho]; · iexact Ho
      isplitl [Hd]; · iexact Hd
      isplitl [HO]; · iexact HO
      isplitl [Ht]; · iexact Ht
      iintro ⟨Hcr, HO⟩
      iapply Hk
      isplitl [HO Hst]
      · isplitr; · iexact Hc
        isplitl [HO]; · iexact HO
        iexact Hst
      isplitl [Ha]; · iexact Ha
      iexact Hcr) Q)
  isplitl [HO Hst]
  · isplitr; · iexact Hc
    isplitl [HO]; · iexact HO
    iexact Hst
  isplitl [Hb Ho Hd Ht]
  · rw [bigSep_sep', bigSep_sep', bigSep_sep']
    isplitl [Hb]; · iexact Hb
    isplitl [Ho]; · iexact Ho
    isplitl [Hd]; · iexact Hd
    iexact Ht
  rw [tail_end, bigSep_sep']
  iintro ⟨⟨-, HO, Hst⟩, Ha, Hcr⟩
  iapply Hk
  isplitl [HO]; · iexact HO
  isplitl [Hst]; · iexact Hst
  isplitl [Ha]; · iexact Ha
  iexact Hcr

theorem phase_local (Q : PUnit → sProp 𝕄) :
    iprop(ctx P R G κ ∗ owe c 0 ∗ staged P R c
        ∗ (bigSep Finset.univ fun j => before c (pR (last j))) ∗ (bigSep Finset.univ fun j => anyOwn c (rowsO oB c (last j)))
        ∗ ((owe c 0 ∗ staged P R c ∗ (bigSep Finset.univ fun j => afterK P R G c (pR (last j)))
            ∗ bigSep Finset.univ fun j => owns (c : Thread nD τ) (rowsO oB c (last j)) fullShare (outC P R G c (last j))) -∗ Q ⟨⟩))
      ⊢ run c (each 2 (local2 pB h0 wB oB h3 qB h4 cc0_scratch2 c (G c))) Q := by
  iintro ⟨#Hc, HO, Hst, Hb, Ho, Hk⟩
  iapply (run_each c _ (fun _ => iprop(ctx P R G κ ∗ owe c 0 ∗ staged P R c))
    (fun j => iprop(before c (pR (last j)) ∗ anyOwn c (rowsO oB c (last j))))
    (fun j => iprop(afterK P R G c (pR (last j))
      ∗ owns (c : Thread nD τ) (rowsO oB c (last j)) fullShare (outC P R G c (last j))))
    (fun j Q => by
      unfold local2
      iintro ⟨⟨#Hc, HO, Hst⟩, ⟨Hb, Ho⟩, Hk⟩
      iapply (run_local P R G κ c h0 h3 h4 0 (above_zero 2) (last j) _)
      isplitr; · iexact Hc
      isplitl [HO]; · iexact HO
      isplitl [Hst]; · iexact Hst
      isplitl [Hb]; · iexact Hb
      isplitl [Ho]; · iexact Ho
      iintro ⟨HO, Hst, Ha, Ho⟩
      iapply Hk
      isplitl [HO Hst]
      · isplitr; · iexact Hc
        isplitl [HO]; · iexact HO
        iexact Hst
      isplitl [Ha]; · iexact Ha
      iexact Ho) Q)
  isplitl [HO Hst]
  · isplitr; · iexact Hc
    isplitl [HO]; · iexact HO
    iexact Hst
  isplitl [Hb Ho]
  · rw [bigSep_sep']
    isplitl [Hb]; · iexact Hb
    iexact Ho
  rw [bigSep_sep']
  iintro ⟨⟨-, HO, Hst⟩, Ha, Ho⟩
  iapply Hk
  isplitl [HO]; · iexact HO
  isplitl [Hst]; · iexact Hst
  isplitl [Ha]; · iexact Ha
  iexact Ho

theorem phase_waitO (Q : PUnit → sProp 𝕄) :
    iprop(ctx P R G κ ∗ owe c 0 ∗ (bigSep Finset.univ fun j => before c (oR j))
        ∗ ((owe c 0 ∗ bigSep Finset.univ fun j => afterK P R G c (oR j)) -∗ Q ⟨⟩))
      ⊢ run c (each 7 (waitO oB h3 cc0_scratch4 c)) Q :=
  run_awaits P R G κ c _ oR (fun j Q => await P R G κ c (oR j) 3 0 (le_of_eq (lv_oR c j ())) (above_zero 3)
    (rowsO oB c (up j)) (rowsO oB c (up j)) (credit_rowsO c (up j)) Q) Q

theorem phase_doneP (Q : PUnit → sProp 𝕄) :
    iprop(ctx P R G κ ∗ owe c 0 ∗ (bigSep Finset.univ fun i => before c (pS i))
        ∗ ((owe c 0 ∗ bigSep Finset.univ fun i => afterK P R G c (pS i)) -∗ Q ⟨⟩))
      ⊢ run c (each 9 (doneP pB h0 qB h4 cc0_scratch1 c)) Q :=
  run_awaits P R G κ c _ pS (fun i Q => await P R G κ c (pS i) _ 0 le_rfl (above_zero _)
    (slotR qB i) (rowsL pB c i) (credit_rowsL c i) Q) Q

theorem phase_doneO (Q : PUnit → sProp 𝕄) :
    iprop(ctx P R G κ ∗ owe c 0 ∗ (bigSep Finset.univ fun j => before c (oS j))
        ∗ ((owe c 0 ∗ bigSep Finset.univ fun j => afterK P R G c (oS j)) -∗ Q ⟨⟩))
      ⊢ run c (each 7 (doneO oB h3 cc0_scratch3 c)) Q :=
  run_awaits P R G κ c _ oS (fun j Q => await P R G κ c (oS j) _ 0 le_rfl (above_zero _)
    (rowsO oB c (up j)) (rowsO oB c (up j)) (credit_rowsO c (up j)) Q) Q

end Body

end Cert.KernelIdeal.Proof

end
-- ==== Proof.KernelIdeal.BodyWhole.lean ====
/-
  The whole body of the kernel, run on one device.

  `bodyRun` states what a device needs at the start, that nothing goes wrong, and what it holds at the
  end: its staged buffers as they were, the whole result, every counter back at zero and nothing owed.
-/
module

public import proofs.«01_k».proof.Proof.KernelIdeal.BodyRun

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (P R : Dev nD → Vec F S576x1024 .bf16) (G : Dev nD → Vec F S1024 .bf16)
variable (κ : GSem nD τ sig → ℕ) (c : Dev nD)

/-! ## Buffers in parts -/

section Parts

variable {sp : Space} {s : Shape} {e : EltTy} (m : Memref sig .tc sp s e) {T : Type} [Fintype T] [DecidableEq T]
  (r : T → Rect s) (hr : ∀ t a, (r t).stride a = 1) (hd : ∀ t t', t ≠ t' → Disjoint (r t).set (r t').set)
  (hcov : (Finset.univ : Finset T).biUnion (fun t => (r t).set) = Finset.univ)
include hd hcov

omit [DecidableEq T] in
/-- A memref held at any contents is its parts so held, -/
theorem any_parts : (anyOwn (F := F) c m) ⊢ bigSep Finset.univ fun t => anyOwn c (m.slice (r t) (hr t)) := by
  unfold anyOwn
  iintro ⟨%X, H⟩
  have h : (owns (c : Thread nD τ) m fullShare X : sProp 𝕄)
      ⊢ bigSep Finset.univ fun t => iprop(∃ Y, owns (c : Thread nD τ) (m.slice (r t) (hr t)) fullShare Y) :=
    (owns_rects (c : Thread nD τ) m fullShare r hr hd hcov X).trans (bigSep_mono fun t _ => by
      show (_ : sProp 𝕄) ⊢ _
      iintro H; iexists _; iexact H)
  iapply h
  iexact H

/-- and back. -/
theorem parts_any : (bigSep Finset.univ fun t => anyOwn (F := F) c (m.slice (r t) (hr t))) ⊢ anyOwn c m := by
  unfold anyOwn
  refine (bigSep_mono fun t _ => (ownsSat_true (c : Thread nD τ) (m.slice (r t) (hr t)) fullShare).2).trans ?_
  exact (ownsSat_of_rects (c : Thread nD τ) m fullShare r hr hd hcov (fun _ _ => True)).trans
    (ownsSat_any (c : Thread nD τ) m fullShare)

end Parts

/-- A slot as rows is the slot. -/
theorem slot_any (i : Fin 9) : anyOwn (F := F) c (qB.slice (rectR i) fun _ => rfl) ⊢ anyOwn c (slotR qB i) := by
  unfold anyOwn owns
  iintro ⟨%X, %f, -, H⟩
  iexists _; iexists f
  isplitr; · ipureintro; rfl
  rw [show (slotR qB i).view.set = (qB.slice (rectR i) fun _ => rfl).view.set from View.set_reshape _ _]
  iexact H
theorem any_slot (i : Fin 9) : anyOwn (F := F) c (slotR qB i) ⊢ anyOwn c (qB.slice (rectR i) fun _ => rfl) := by
  unfold anyOwn owns
  iintro ⟨%X, %f, -, H⟩
  iexists _; iexists f
  isplitr; · ipureintro; rfl
  rw [show (qB.slice (rectR i) fun _ => rfl).view.set = (slotR qB i).view.set from (View.set_reshape _ _).symm]
  iexact H

theorem slots_split : anyOwn (F := F) c qB ⊢ bigSep Finset.univ fun i => anyOwn c (slotR qB i) :=
  (any_parts c qB rectR (fun _ _ => rfl) rectR_disjoint rectR_cover).trans (bigSep_mono fun i _ => slot_any c i)
theorem slots_join : (bigSep Finset.univ fun i => anyOwn (F := F) c (slotR qB i)) ⊢ anyOwn c qB :=
  (bigSep_mono fun i _ => any_slot c i).trans (parts_any c qB rectR (fun _ _ => rfl) rectR_disjoint rectR_cover)

theorem slots_forget (X : Fin 9 → Vec F S64x1024 .bf16) :
    (bigSep Finset.univ fun i => owns (c : Thread nD τ) (slotR qB i) fullShare (X i))
      ⊢ (bigSep Finset.univ fun i => anyOwn c (slotR qB i) : sProp 𝕄) :=
  bigSep_mono fun i _ => by
    show (_ : sProp 𝕄) ⊢ _
    unfold anyOwn; iintro H; iexists _; iexact H

theorem result_split : anyOwn (F := F) c oB ⊢ iprop((bigSep Finset.univ fun i => anyOwn c (rowsO oB c i))
    ∗ bigSep Finset.univ fun j => anyOwn c (rowsO oB (xN c) (up j))) := by
  refine (any_parts c oB (rectP c) (fun _ _ => rfl) (rectP_disjoint c) (rectP_cover c)).trans (Entails.of_eq ?_)
  rw [BI.bigSep_univ_sum]
  rfl
theorem result_join : iprop((bigSep Finset.univ fun i => owns (c : Thread nD τ) (rowsO oB c i) fullShare (outC P R G c i))
    ∗ bigSep Finset.univ fun j => owns (c : Thread nD τ) (rowsO oB (xN c) (up j)) fullShare (outC P R G (xN c) (up j)))
    ⊢ (owns (c : Thread nD τ) oB fullShare (outV P R G c) : sProp 𝕄) := by
  refine .trans (Entails.of_eq ?_)
    (owns_of_rects (c : Thread nD τ) oB fullShare (rectP c) (fun _ _ => rfl) (rectP_disjoint c) (rectP_cover c) (outV P R G c))
  simp only [outV_part]
  rw [BI.bigSep_univ_sum]
  rfl

theorem staged_split : (owns (c : Thread nD τ) pB fullShare (P c) : sProp 𝕄)
    ⊢ iprop((bigSep Finset.univ fun i => owns (c : Thread nD τ) (rowsL pB c i) fullShare.left (rowsAt P c i))
      ∗ owns (c : Thread nD τ) pB fullShare.right (P c)) := by
  iintro H
  ihave H := (owns_halves (c : Thread nD τ) pB fullShare (P c)).1 $$ H
  icases H with ⟨Hl, Hr⟩
  isplitl [Hl]
  · iapply (show (owns (c : Thread nD τ) pB fullShare.left (P c) : sProp 𝕄)
        ⊢ bigSep Finset.univ fun i => owns (c : Thread nD τ) (rowsL pB c i) fullShare.left (rowsAt P c i) from
      owns_rects (c : Thread nD τ) pB fullShare.left (rectL c) (fun _ _ => rfl) (rectL_disjoint c) (rectL_cover c) (P c))
    iexact Hl
  iexact Hr
theorem staged_join : iprop((bigSep Finset.univ fun i => owns (c : Thread nD τ) (rowsL pB c i) fullShare.left (rowsAt P c i))
      ∗ owns (c : Thread nD τ) pB fullShare.right (P c)) ⊢ (owns (c : Thread nD τ) pB fullShare (P c) : sProp 𝕄) := by
  iintro ⟨Hl, Hr⟩
  iapply (owns_halves (c : Thread nD τ) pB fullShare (P c)).2
  isplitl [Hl]
  · iapply (show (bigSep Finset.univ fun i => owns (c : Thread nD τ) (rowsL pB c i) fullShare.left (rowsAt P c i))
        ⊢ (owns (c : Thread nD τ) pB fullShare.left (P c) : sProp 𝕄) from
      owns_of_rects (c : Thread nD τ) pB fullShare.left (rectL c) (fun _ _ => rfl) (rectL_disjoint c) (rectL_cover c) (P c))
    iexact Hl
  iexact Hr

/-! ## The whole body -/

/-- A device's place in the protocol at the start: where its own cells stand, what it may wait for, and the
    duties it is to do. -/
def ghost : sProp 𝕄 :=
  iprop((reached ER (barCell (yN c)) 0 ∗ reached ER (barCell (xN c)) 0)
    ∗ (dutyTok ER (barCell (yN c)) 0 false ∗ dutyTok ER (barCell (xN c)) 0 true)
    ∗ (bigSep Finset.univ fun i => dutyTok ER (cell c (pS i)) 0 false)
    ∗ (bigSep Finset.univ fun i => dutyTok ER (cell (yN c) (pR i)) 0 false)
    ∗ (bigSep Finset.univ fun j => dutyTok ER (cell c (oS j)) 0 false)
    ∗ (bigSep Finset.univ fun j => dutyTok ER (cell (xN c) (oR j)) 0 false)
    ∗ atPos ER (barCell c) 0 ∅ 0)
/-- The credits it waits with that come from the others. -/
def credits : sProp 𝕄 :=
  iprop(cred (tallyAt (barCell c) () 2) ∗ (bigSep Finset.univ fun i => cred (tallyAt (cell c (pR i)) () N))
    ∗ bigSep Finset.univ fun j => cred (tallyAt (cell c (oR j)) () N))
/-- Its copies' cells, opened. -/
def cells : sProp 𝕄 :=
  iprop((bigSep Finset.univ fun k => atPos ER (cell c k) 0 ∅ 0) ∗ bigSep Finset.univ fun k => reached ER (cell c k) 0)
/-- Its buffers at the start, -/
def bufs : sProp 𝕄 :=
  iprop(owns (c : Thread nD τ) pB fullShare (P c) ∗ owns (c : Thread nD τ) wB fullShare (R c)
    ∗ owns (c : Thread nD τ) gB fullShare (G c) ∗ anyOwn c oB ∗ anyOwn c qB)
/-- and at the end. -/
def bufs' : sProp 𝕄 :=
  iprop(owns (c : Thread nD τ) pB fullShare (P c) ∗ owns (c : Thread nD τ) wB fullShare (R c)
    ∗ owns (c : Thread nD τ) gB fullShare (G c) ∗ owns (c : Thread nD τ) oB fullShare (outV P R G c) ∗ anyOwn c qB)
/-- All its counters at zero. -/
def zeros : sProp 𝕄 := iprop(semVal (barCell c) 0 ∗ bigSep Finset.univ fun k => semVal (cell c k) 0)

/-- All cells' rounds over, the counters come back at zero. -/
theorem close_all : iprop(ctx P R G κ ∗ atPos ER (barCell c) 1 ∅ 0 ∗ bigSep Finset.univ fun k => atPos ER (cell c k) 1 ∅ 0)
    ⊢ |={Set.univ}=> zeros c := by
  unfold zeros
  have hk : iprop(ctx P R G κ ∗ bigSep Finset.univ fun k => atPos ER (cell c k) 1 ∅ 0)
      ⊢ |={Set.univ}=> bigSep Finset.univ fun k => semVal (cell c k) 0 :=
    (bigSep_with_persistent fun k _ => by
      show iprop(ctx P R G κ ∗ atPos ER (cell c k) 1 ∅ 0)
        ⊢ iprop(cellInv ER (rd P R G) (κ (cell c k)) (cell c k) ∗ atPos ER (cell c k) 1 ∅ 0)
      iintro ⟨Hc, H⟩
      isplitl [Hc]; · iapply (ctx_cell P R G κ c k); iexact Hc
      iexact H).trans
    (Rounds.cells_close ER (rd P R G) Finset.univ (cell c) (fun k => κ (cell c k)) (fun _ _ => Set.mem_univ _)
      (fun _ _ => id) (fun _ => 1) fun k _ r h => duties_later P R G _ r h)
  iintro ⟨#Hc, Hb, Hk⟩
  imod (Rounds.cell_close ER (rd P R G) (κ := κ (barCell c)) (g := barCell c) (R := 1) (Set.mem_univ _) id
    (fun r h => duties_later P R G _ r h)) $$ [Hb] with Hb
  · isplitr; · iapply (ctx_bar P R G κ c); iexact Hc
    iexact Hb
  imod hk $$ [Hk] with Hk
  · isplitr; · iexact Hc
    iexact Hk
  imodintro
  isplitl [Hb]; · iexact Hb
  iexact Hk

/-- The tokens, with what is known to be reached, in the form in which the copies use them. -/
theorem toks_intro {n : ℕ} (c' : Dev nD) (k k' : Fin n → K) :
    iprop((bigSep Finset.univ fun i => dutyTok ER (cell c (k i)) 0 false) ∗ (bigSep Finset.univ fun i => reached ER (cell c (k i)) 0)
        ∗ (bigSep Finset.univ fun i => dutyTok ER (cell c' (k' i)) 0 false) ∗ bigSep Finset.univ fun i => reached ER (cell c' (k' i)) 0)
      ⊢ (bigSep Finset.univ fun i => toks c c' (k i) (k' i) : sProp 𝕄) := by
  unfold toks
  rw [bigSep_sep', bigSep_sep', bigSep_sep']

/-- Where the cells stand, with the credits, in the form in which the waits use them. -/
theorem before_intro {n : ℕ} (k : Fin n → K) :
    iprop((bigSep Finset.univ fun i => atPos ER (cell c (k i)) 0 ∅ 0) ∗ bigSep Finset.univ fun i => cred (tallyAt (cell c (k i)) () N))
      ⊢ (bigSep Finset.univ fun i => before c (k i) : sProp 𝕄) := by
  unfold before
  rw [bigSep_sep']

variable (h0 : pB.IsWhole) (h1 : wB.IsWhole) (h2 : gB.IsWhole) (h3 : oB.IsWhole) (h4 : qB.IsWhole)

theorem load_weights (Q : Vec F S1024 .bf16 → sProp 𝕄) {hl} :
    iprop(owns (c : Thread nD τ) gB fullShare (G c) ∗ (owns (c : Thread nD τ) gB fullShare (G c) -∗ Q (G c)))
      ⊢ run c (Prog.lift (.load gB (Rect.unit (s := S1024) ![0] S1024.size inb_S1024_S1024_0).toLoadRect hl)) Q := by
  have h : (fun j => G c ((Rect.unit (s := S1024) ![0] S1024.size inb_S1024_S1024_0).emb j)) = G c := by
    funext j
    congr 1
    funext a
    fin_cases a
    exact Fin.ext (by simp [Rect.emb, Rect.unit])
  iintro ⟨H, Hk⟩
  iapply (load c gB (Rect.unit (s := S1024) ![0] S1024.size inb_S1024_S1024_0) fullShare (G c) Q)
  rw [h]
  isplitl [H]; · iexact H
  iexact Hk

theorem bodyRun (Q : PUnit → sProp 𝕄) :
    iprop((ctx P R G κ ∗ owe c (O₀ c) ∗ ghost c ∗ credits c ∗ cells c ∗ bufs P R G c)
        ∗ ((zeros c ∗ bufs' P R G c ∗ owe c 0) -∗ Q ⟨⟩))
      ⊢ run c (body pB h0 wB gB oB h3 qB h4 cc0_scratch1 cc0_scratch2 cc0_scratch3 cc0_scratch4) Q := by
  refine BIBase.Entails.trans ?_ (wp_fupd _ _ _ _ Q)
  show _ ⊢ run c (body pB h0 wB gB oB h3 qB h4 cc0_scratch1 cc0_scratch2 cc0_scratch3 cc0_scratch4) fun a => iprop(|={Set.univ}=> Q a)
  unfold body ghost credits cells bufs
  simp only [run_bind]
  rw [bigSep_K (fun k => reached ER (cell c k) 0), bigSep_K (fun k => atPos ER (cell c k) 0 ∅ 0)]
  iintro ⟨⟨#Hc, HO, ⟨⟨#Hry, #Hrx⟩, ⟨Hty, Htx⟩, HtPS, HtPR, HtOS, HtOR, Hbar⟩, ⟨Hcb, HcP, HcO⟩,
    ⟨⟨⟨HaPS, HaPR⟩, HaOS, HaOR⟩, ⟨#HrPS, #HrPR⟩, #HrOS, #HrOR⟩, HP, HR, HG, Ho, Hq⟩, Hk⟩
  ihave Hq := (slots_split c) $$ Hq
  ihave Ho := (result_split c) $$ Ho
  icases Ho with ⟨Ho, HoN⟩
  ihave HP := (staged_split P c) $$ HP
  icases HP with ⟨HPl, HPr⟩
  iapply (run_device c _)
  iapply (run_signal P R G κ c (yN c) false (tail (dueO c) 0 + tail (dueP c) 0 + tallyAt (barCell (xN c)) () 1) _)
  isplitr; · iexact Hc
  isplitl [HO]; · unfold O₀; iexact HO
  isplitl [Hty]; · iexact Hty
  isplitl [Hq]
  · unfold barPay; rw [yN_yN]
    isplitl [Hq]; · iexact Hq
    iexact HrPR
  isplitr; · iexact Hry
  iintro HO
  iapply (run_signal P R G κ c (xN c) true (tail (dueO c) 0 + tail (dueP c) 0) _)
  isplitr; · iexact Hc
  isplitl [HO]; · iexact HO
  isplitl [Htx]; · iexact Htx
  isplitl [HoN]
  · unfold barPay; rw [xN_xN]
    isplitl [HoN]; · iexact HoN
    iexact HrOR
  isplitr; · iexact Hrx
  iintro HO
  iapply (run_barrier P R G κ c (tail (dueO c) 0 + tail (dueP c) 0)
    (above_add (above_mono (by decide) (above_dueO c 0)) (above_dueP c 0)) _)
  isplitr; · iexact Hc
  isplitl [Hbar]; · iexact Hbar
  isplitl [Hcb]; · iexact Hcb
  isplitl [HO]; · iexact HO
  unfold barPay
  iintro ⟨Hbar, HO, ⟨Hd, #HrPR'⟩, Hd', #HrOR'⟩
  iapply (phase_sendP P R G κ c h0 h4 (tail (dueO c) 0) _)
  isplitr; · iexact Hc
  isplitl [HO]; · iexact HO
  isplitl [HPl]; · iexact HPl
  isplitl [Hd]; · iexact Hd
  isplitl [HtPS HtPR]
  · iapply (toks_intro c (yN c) pS pR)
    isplitl [HtPS]; · iexact HtPS
    isplitr; · iexact HrPS
    isplitl [HtPR]; · iexact HtPR
    iexact HrPR'
  iintro ⟨HO, HcPS⟩
  iapply (load_weights G c _)
  isplitl [HG]; · iexact HG
  iintro HG
  ihave HbR := (before_intro c pR) $$ [HaPR HcP]
  · isplitl [HaPR]; · iexact HaPR
    iexact HcP
  ihave HbR := (Entails.of_eq (bigSep_nine (F := F) fun i => before c (pR i))) $$ HbR
  icases HbR with ⟨HbR7, HbR2⟩
  ihave Ho := (Entails.of_eq (bigSep_nine (F := F) fun i => anyOwn c (rowsO oB c i))) $$ Ho
  icases Ho with ⟨Ho7, Ho2⟩
  iapply (phase_relay P R G κ c h0 h3 h4 _)
  isplitr; · iexact Hc
  isplitl [HO]; · iexact HO
  isplitl [HPr HR]
  · unfold staged
    isplitl [HPr]; · iexact HPr
    iexact HR
  isplitl [HbR7]; · iexact HbR7
  isplitl [Ho7]; · iexact Ho7
  isplitl [Hd']; · iexact Hd'
  isplitl [HtOS HtOR]
  · iapply (toks_intro c (xN c) oS oR)
    isplitl [HtOS]; · iexact HtOS
    isplitr; · iexact HrOS
    isplitl [HtOR]; · iexact HtOR
    iexact HrOR'
  iintro ⟨HO, Hst, HaR7, HcOS⟩
  iapply (phase_local P R G κ c h0 h3 h4 _)
  isplitr; · iexact Hc
  isplitl [HO]; · iexact HO
  isplitl [Hst]; · iexact Hst
  isplitl [HbR2]; · iexact HbR2
  isplitl [Ho2]; · iexact Ho2
  iintro ⟨HO, Hst, HaR2, Ho2⟩
  iapply (phase_waitO P R G κ c h3 _)
  isplitr; · iexact Hc
  isplitl [HO]; · iexact HO
  isplitl [HaOR HcO]
  · iapply (before_intro c oR)
    isplitl [HaOR]; · iexact HaOR
    iexact HcO
  iintro ⟨HO, HaOR⟩
  iapply (phase_doneP P R G κ c h0 h4 _)
  isplitr; · iexact Hc
  isplitl [HO]; · iexact HO
  isplitl [HaPS HcPS]
  · iapply (before_intro c pS)
    isplitl [HaPS]; · iexact HaPS
    iexact HcPS
  iintro ⟨HO, HaPS⟩
  iapply (phase_doneO P R G κ c h3 _)
  isplitr; · iexact Hc
  isplitl [HO]; · iexact HO
  isplitl [HaOS HcOS]
  · iapply (before_intro c oS)
    isplitl [HaOS]; · iexact HaOS
    iexact HcOS
  iintro ⟨HO, HaOS⟩
  ihave HaR := (Entails.of_eq (bigSep_nine fun i => afterK P R G c (pR i)).symm) $$ [HaR7 HaR2]
  · isplitl [HaR7]; · iexact HaR7
    iexact HaR2
  unfold afterK kPay staged
  simp only [bigSep_sep']
  icases HaR with ⟨HaPR, Hq⟩
  icases HaOR with ⟨HaOR, HoN⟩
  icases HaPS with ⟨HaPS, HPl⟩
  icases HaOS with ⟨HaOS, Ho7⟩
  icases Hst with ⟨HPr, HR⟩
  imod (close_all P R G κ c) $$ [Hbar HaPR HaOR HaPS HaOS] with Hz
  · isplitr; · iexact Hc
    isplitl [Hbar]; · iexact Hbar
    rw [bigSep_K (fun k => atPos ER (cell c k) 1 ∅ 0)]
    isplitl [HaPS HaPR]
    · isplitl [HaPS]; · iexact HaPS
      iexact HaPR
    isplitl [HaOS]; · iexact HaOS
    iexact HaOR
  imodintro
  iapply Hk
  isplitl [Hz]; · iexact Hz
  isplitr [HO]
  · unfold bufs'
    isplitl [HPl HPr]
    · iapply (staged_join P c)
      isplitl [HPl]; · iexact HPl
      iexact HPr
    isplitl [HR]; · iexact HR
    isplitl [HG]; · iexact HG
    isplitl [Ho7 Ho2 HoN]
    · iapply (result_join P R G c)
      isplitl [Ho7 Ho2]
      · iapply (Entails.of_eq (bigSep_nine fun i => owns (c : Thread nD τ) (rowsO oB c i) fullShare (outC P R G c i)).symm)
        isplitl [Ho7]; · iexact Ho7
        iexact Ho2
      iexact HoN
    iapply (slots_join c)
    iapply (slots_forget c fun i => rowsAt P (yN c) i)
    iexact Hq
  iexact HO

end Cert.KernelIdeal.Proof

end
-- ==== Proof.KernelIdeal.Region.lean ====
/-
  The kernel as a region of the program.

  What every device holds in its arrays when the kernel starts is a parameter, `V`. The staged arguments are
  named by it, the body is the one proved in `bodyRun`, and the record at the end says how the arrays change:
  only the result's, to `outV`.
-/
module

public import proofs.«01_k».proof.Proof.KernelIdeal.BodyWhole
public import Idealize.ShloMosaic.Lib.Pipeline.ValueKit.Geometry

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ UU ℕ

variable (V : Dev nD → Valuation τ sig (Elt F))

/-! ## What the devices stage -/

/-- The rows of the first argument that device `c` stages, -/
def argP (c : Dev nD) : Vec F S576x1024 .bf16 := V c (Proc.devRef .tc main_v10)
/-- those of the second, -/
def argR (c : Dev nD) : Vec F S576x1024 .bf16 := V c (Proc.devRef .tc main_v14)
/-- the weights, -/
def argG (c : Dev nD) : Vec F S1024 .bf16 := V c (Proc.devRef .tc main_arg2)
/-- and the result. -/
def res (c : Dev nD) : Vec F S1024x1024 .bf16 := outV (argP V) (argR V) (argG V) c

/-- The receive buffer, at contents not chosen. -/
def recvAny (c : Dev nD) : sProp 𝕄 :=
  iprop(∃ f : Buf (Elt F) ((c : Thread nD τ).loc cc0_scratch0), ((c : Thread nD τ).loc cc0_scratch0) ↦{fullShare} f)
theorem recvAny_eq (c : Dev nD) : (recvAny c : sProp 𝕄) = anyOwn c qB :=
  (Memref.IsWhole.exists_owns_eq (c := (c : Thread nD τ)) (m := qB) (Memref.isWhole_whole _) fullShare).symm

/-- What the body has of the protocol when it starts. -/
def opened (c : Dev nD) : sProp 𝕄 :=
  iprop(∃ κ, ctx (argP V) (argR V) (argG V) κ ∗ ghost c ∗ credits c ∗ cells c)

/-- The kernel's one point: what it stages, finds and leaves. -/
def dats (_ : Fin 1) (c : Dev nD) : Dat τ (Elt F) Unit ℕ UU ℕ cfg0 c where
  A w := V c (Proc.devRef .tc (Pipeline.arrRef spec0 w))
  after := fun
    | 0, _ => argP V c
    | 1, _ => argR V c
    | 2, _ => argG V c
    | 3, _ => res V c
    | ⟨_ + 4, h⟩, _ => absurd h (Nat.not_lt.2 (Nat.le_add_left _ _))
  Φ t := if t.val = 0 then iprop(opened V c ∗ recvAny c ∗ ∃ r, prngReg c r)
    else iprop(zeros c ∗ recvAny c ∗ ∃ r, prngReg c r)
  q _ := fullShare
  owed t := if t.val = 0 then O₀ c else 0

theorem owes_intro (c : Dev nD) (t : Fin (cfg0.N + 1)) (O : CellTallies nD τ sig Unit)
    (h : (dats V 0 c).owed t = O) : owe c O ⊢ (dats V 0 c).owesAt () t := by
  unfold owe Dat.owesAt Pipeline.owesWithin Dat.bound
  rw [h]
  iintro ⟨%W, H⟩
  iexists W
  isplitr; · ipureintro; exact fun _ _ => Or.inl trivial
  iexact H
theorem owes_elim (c : Dev nD) (t : Fin (cfg0.N + 1)) (O : CellTallies nD τ sig Unit)
    (h : (dats V 0 c).owed t = O) : (dats V 0 c).owesAt () t ⊢ owe c O := by
  unfold owe Dat.owesAt Pipeline.owesWithin Dat.bound
  rw [h]
  iintro ⟨%W, -, H⟩
  iexists W
  iexact H

/-- A window's one block lies at the start of its array. -/
theorem index_zero : ∀ (w : Fin 4) (a), (win0 w).index t0_0 a = 0 := by decide +kernel
theorem block_emb (w : Fin 4) (y : ((win0 w).xblock (grid0.coords t0_0)).Idx) (a) :
    (((win0 w).rect t0_0).emb y a : ℕ) = y a :=
  Pipeline.Window.rect_emb_val_of_index_zero _ _ _ (index_zero w a) y

/-- A staged argument is the array. -/
theorem block_P (c : Dev nD) (t : Fin cfg0.N) (d) : (dats V 0 c).before 0 t d = argP V c := by
  rw [(dats V 0 c).before_fetched 0 t (fetch0_0 t) d]
  obtain rfl := fin_N0 t
  funext x
  show V c (Proc.devRef .tc main_v10) _ = V c (Proc.devRef .tc main_v10) x
  congr 1
  funext a
  exact Fin.ext (block_emb 0 _ a)
theorem block_R (c : Dev nD) (t : Fin cfg0.N) (d) : (dats V 0 c).before 1 t d = argR V c := by
  rw [(dats V 0 c).before_fetched 1 t (fetch0_1 t) d]
  obtain rfl := fin_N0 t
  funext x
  show V c (Proc.devRef .tc main_v14) _ = V c (Proc.devRef .tc main_v14) x
  congr 1
  funext a
  exact Fin.ext (block_emb 1 _ a)
theorem block_G (c : Dev nD) (t : Fin cfg0.N) (d) : (dats V 0 c).before 2 t d = argG V c := by
  rw [(dats V 0 c).before_fetched 2 t (fetch0_2 t) d]
  obtain rfl := fin_N0 t
  funext x
  show V c (Proc.devRef .tc main_arg2) _ = V c (Proc.devRef .tc main_arg2) x
  congr 1
  funext a
  exact Fin.ext (block_emb 2 _ a)

theorem res_out (c : Dev nD) : (dats V 0 c).arrAt 3 cfg0.N = res V c := by
  funext i
  refine ((dats V 0 c).arrAt_emb_eq_after_last 3 t0_0 (by decide +kernel) i).trans ?_
  rfl

/-! ## The body at the kernel's point -/

theorem start_at (c : Dev nD) :
    (dats V 0 c).Φ t0_0.castSucc = iprop(opened V c ∗ recvAny c ∗ ∃ r, prngReg c r) := rfl
theorem end_at (c : Dev nD) :
    (dats V 0 c).Φ t0_0.succ = iprop(zeros c ∗ recvAny c ∗ ∃ r, prngReg c r) := rfl

/-- The body, as the region runs it. -/
theorem bodyAt (c : Dev nD) : Pipeline.BodyObligation (dats V 0 c) defs₀ 𝒱₀ () Set.univ := by
  intro t
  obtain rfl := fin_N0 t
  rw [start_at, end_at, bigSep_W0, bigSep_W0]
  show iprop((opened V c ∗ recvAny c ∗ ∃ r, prngReg c r) ∗ (dats V 0 c).owesAt () t0_0.castSucc
      ∗ (∃ d, owns (c : Thread nD τ) pB fullShare ((dats V 0 c).before 0 t0_0 d))
      ∗ (∃ d, owns (c : Thread nD τ) wB fullShare ((dats V 0 c).before 1 t0_0 d))
      ∗ (∃ d, owns (c : Thread nD τ) gB fullShare ((dats V 0 c).before 2 t0_0 d))
      ∗ (∃ d, owns (c : Thread nD τ) oB fullShare ((dats V 0 c).before 3 t0_0 d)))
    ⊢ run c (bodyAt0 t0_0) fun _ => iprop((zeros c ∗ recvAny c ∗ ∃ r, prngReg c r)
      ∗ (dats V 0 c).owesAt () t0_0.succ
      ∗ owns (c : Thread nD τ) pB fullShare (argP V c) ∗ owns (c : Thread nD τ) wB fullShare (argR V c)
      ∗ owns (c : Thread nD τ) gB fullShare (argG V c) ∗ owns (c : Thread nD τ) oB fullShare (res V c))
  rw [bodyAt0, body_eq, recvAny_eq]
  simp only [block_P, block_R, block_G]
  unfold opened
  iintro ⟨⟨⟨%κ, Hc, Hg, Hcr, Hce⟩, Hq, Hp⟩, HO, ⟨%_, HP⟩, ⟨%_, HR⟩, ⟨%_, HG⟩, ⟨%_, Ho⟩⟩
  ihave HO := (owes_elim V c t0_0.castSucc (O₀ c) rfl) $$ HO
  iapply (bodyRun (argP V) (argR V) (argG V) κ c (hstage0_0 0) (hstage0_3 0) (Memref.isWhole_whole _) _)
  isplitr [Hp]
  · isplitl [Hc]; · iexact Hc
    isplitl [HO]; · iexact HO
    isplitl [Hg]; · iexact Hg
    isplitl [Hcr]; · iexact Hcr
    isplitl [Hce]; · iexact Hce
    unfold bufs
    isplitl [HP]; · iexact HP
    isplitl [HR]; · iexact HR
    isplitl [HG]; · iexact HG
    isplitl [Ho]
    · unfold anyOwn; iexists _; iexact Ho
    iexact Hq
  unfold bufs'
  iintro ⟨Hz, ⟨HP, HR, HG, Ho, Hq⟩, HO⟩
  isplitl [Hz Hq Hp]
  · isplitl [Hz]; · iexact Hz
    isplitl [Hq]; · iexact Hq
    iexact Hp
  isplitl [HO]
  · iapply (owes_intro V c t0_0.succ 0 rfl)
    iexact HO
  isplitl [HP]; · iexact HP
  isplitl [HR]; · iexact HR
  isplitl [HG]; · iexact HG
  iexact Ho

/-! ## The region -/

/-- What the launch gives a device for the kernel: the cells' invariants, its place in the protocol, the right
    to open its copies' cells, and its credits. -/
def launched (c : Dev nD) : sProp 𝕄 :=
  iprop((∃ κ : GSem nD τ sig → ℕ, ((bigSep Finset.univ fun d : Dev nD => cellInv ER (rd (argP V) (argR V) (argG V)) (κ (barCell d)) (barCell d))
      ∗ bigSep Finset.univ fun p : Dev nD × K => cellInv ER (rd (argP V) (argR V) (argG V)) (κ (cell p.1 p.2)) (cell p.1 p.2))
      ∗ ghost c ∗ bigSep Finset.univ fun k => openTok ER (cell c k)) ∗ credits c)

theorem cells_intro (c : Dev nD) :
    (bigSep Finset.univ fun k => iprop(atPos ER (cell c k) 0 ∅ 0 ∗ reached ER (cell c k) 0)) ⊢ (cells c : sProp 𝕄) := by
  unfold cells
  rw [bigSep_sep']

/-- The device opens its cells. -/
theorem open_all (c : Dev nD) : iprop(launched V c ∗ Pipeline.ownSems0 osem c ∗ levAts L lv)
    ⊢ (|={Set.univ}=> opened V c : sProp 𝕄) := by
  unfold launched opened Pipeline.ownSems0
  iintro ⟨⟨⟨%κ, ⟨#Hb, #Hk⟩, Hg, Hot⟩, Hcr⟩, Hs, #HL⟩
  ihave #Hc := (show iprop((bigSep Finset.univ fun d : Dev nD =>
        cellInv ER (rd (argP V) (argR V) (argG V)) (κ (barCell d)) (barCell d))
      ∗ (bigSep Finset.univ fun p : Dev nD × K =>
        cellInv ER (rd (argP V) (argR V) (argG V)) (κ (cell p.1 p.2)) (cell p.1 p.2)) ∗ levAts L lv)
      ⊢ ctx (argP V) (argR V) (argG V) κ from by unfold ctx; exact .rfl) $$ []
  · isplitr; · iexact Hb
    isplitr; · iexact Hk
    iexact HL
  have h : iprop(ctx (argP V) (argR V) (argG V) κ ∗ bigSep Finset.univ fun k => openTok ER (cell c k))
      ⊢ bigSep Finset.univ fun k => iprop(cellInv ER (rd (argP V) (argR V) (argG V)) (κ (cell c k)) (cell c k)
        ∗ openTok ER (cell c k)) :=
    bigSep_with_persistent fun k _ => by
      show iprop(ctx (argP V) (argR V) (argG V) κ ∗ openTok ER (cell c k)) ⊢ _
      iintro ⟨Hc, H⟩
      isplitl [Hc]; · iapply (ctx_cell (argP V) (argR V) (argG V) κ c k); iexact Hc
      iexact H
  ihave Hot := h $$ [Hot]
  · isplitr; · iexact Hc
    iexact Hot
  imod (Rounds.cells_open ER (rd (argP V) (argR V) (argG V)) Finset.univ (cell c) (fun k => κ (cell c k))
    (Es := Set.univ) (fun _ _ => Set.mem_univ _)) $$ [Hot Hs] with Hce
  · isplitl [Hot]; · iexact Hot
    iexact Hs
  imodintro
  iexists κ
  isplitr; · iexact Hc
  isplitl [Hg]; · iexact Hg
  isplitl [Hcr]; · iexact Hcr
  iapply (cells_intro c)
  iexact Hce

/-- The arrays after the kernel: the result's is new. -/
def V' (c : Dev nD) : Valuation τ sig (Elt F) := Function.update (V c) (Proc.devRef .tc main_v15) (res V c)

/-- The unscoped buffers that are none of the kernel's arrays. -/
abbrev others : Finset (DevRef τ sig) := Pipeline.ucRefs τ sig \ Pipeline.arrRefs (pcfgs (F := F) 0).spec

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem stage_low (w : Fin 4) (s : Fin (spec0 w).nbuf) (c : Dev nD) :
    lv ((c : Thread nD τ), .dma ((spec0 w).sem s)) () ≤ 0 := by
  have h : decode (.dma ((spec0 w).sem s)) = none := by
    unfold decode Function.partialInv
    exact dif_neg fun ⟨k, hk⟩ => ownSems.disj k w s hk
  unfold lv
  rw [if_neg (fun h => by cases h), h]

theorem V'_res (c : Dev nD) : V' V c (Proc.devRef .tc main_v15) = res V c := Function.update_self ..
theorem V'_of (c : Dev nD) (b : DevRef τ sig) (h : b ≠ Proc.devRef .tc main_v15) : V' V c b = V c b :=
  Function.update_of_ne h ..

/-- The only array the kernel changes is among its arrays. -/
theorem others_ne (b : DevRef τ sig) (h : b ∈ others (F := F)) : b ≠ Proc.devRef .tc main_v15 := by
  rintro rfl
  refine (Finset.mem_sdiff.mp h).2 (Finset.mem_map.mpr ⟨main_v15, Finset.mem_image.mpr ⟨(3 : Fin 4), Finset.mem_univ _, rfl⟩, rfl⟩)

theorem arr_start (c : Dev nD) (w : Fin 4) :
    (dats V 0 c).arrAt w 0 = V c (Proc.devRef .tc (Pipeline.arrRef spec0 w)) := rfl
theorem arr_end (c : Dev nD) (w : Fin 4) :
    (dats V 0 c).arrAt w cfg0.N = V' V c (Proc.devRef .tc (Pipeline.arrRef spec0 w)) := by
  by_cases hw : w = 3
  · subst hw
    exact (res_out V c).trans (V'_res V c).symm
  · have ho : (cfg0.win w).isOut = false := by revert hw; revert w; decide
    have hn : Pipeline.arrRef spec0 w ≠ main_v15 := by revert hw; revert w; decide
    rw [(dats V 0 c).arrAt_in w ho]
    exact (V'_of V c _ (StableHlo.devRef_ne_of_ne hn)).symm

theorem region_in (c : Dev nD) : iprop(Pipeline.scopedRest spec0 c ∗ (∃ r, prngReg c r)
    ∗ StableHlo.held (c.tc : Thread nD τ) ∅ (V c) ∗ opened V c) ⊢ (dats V 0 c).Φ 0 := by
  rw [show (dats V 0 c).Φ 0 = iprop(opened V c ∗ recvAny c ∗ ∃ r, prngReg c r) from rfl, scopedRest0_eq]
  unfold recvAny
  iintro ⟨Hs, Hp, -, Ho⟩
  isplitl [Ho]; · iexact Ho
  isplitl [Hs]; · iexact Hs
  iexact Hp
theorem region_out (c : Dev nD) : (dats V 0 c).Φ (Fin.last cfg0.N)
    ⊢ iprop(Pipeline.scopedRest spec0 c ∗ (∃ r, prngReg c r)
      ∗ StableHlo.held (c.tc : Thread nD τ) ∅ (V' V c) ∗ Pipeline.ownSems0 osem c ∗ semVal (barCell c) 0) := by
  rw [show (dats V 0 c).Φ (Fin.last cfg0.N) = iprop(zeros c ∗ recvAny c ∗ ∃ r, prngReg c r) from rfl, scopedRest0_eq]
  unfold recvAny zeros Pipeline.ownSems0 StableHlo.held
  rw [bigSep_empty]
  iintro ⟨⟨Hb, Hk⟩, Hs, Hp⟩
  isplitl [Hs]; · iexact Hs
  isplitl [Hp]; · iexact Hp
  isplitr; · iempintro
  isplitl [Hk]; · iexact Hk
  iexact Hb

set_option backward.isDefEq.respectTransparency.types false in
/-- The kernel's record: entered with the arrays at `V`, the protocol's launch state and the debts; left with
    the arrays at `V'`, the barrier's counter at zero and nothing owed. -/
def region : RegionSeg (pcfgs (F := F)) adm (dats V) () defs₀ 𝒱₀ L lv 0 :=
  RegionSeg.ofTalk (pcfgs (F := F)) adm (dats V) () defs₀ 𝒱₀ L lv 0 osem ownSems
    ∅ (others (F := F)) (Finset.empty_subset _) kit rfl (fun c => (bodyAt V c).loose)
    (fun _ => 0) O₀ (fun _ => (zero_add _).symm) (fun _ => rfl) (fun _ => rfl) (fun _ w => Dat.share_full _ (fun _ => rfl) w)
    V (V' V) (fun c b hb => V'_of V c b (others_ne (F := F) b (Finset.mem_sdiff.mp hb).1))
    (launched V) (fun c => semVal (barCell c) 0) (opened V) (fun c => semVal (barCell c) 0)
    (open_all V) (region_in V) (region_out V) (fun c => by iintro H; imodintro; iexact H)
    (fun _ => 0)
    ⟨fun c w s => by rw [L_tc]; exact Finset.mem_singleton_self _, fun c w s => stage_low w s c,
      fun c t g i h => by
        have e : (dats V 0 c).owed t = if t.val = 0 then O₀ c else 0 := rfl
        rw [e] at h
        split at h
        · exact above_O₀ c g i h
        · exact absurd h (Nat.lt_irrefl 0)⟩
    (fun _ => iprop(emp)) (arr_start V) (arr_end V)

theorem arrRefs_sub : Pipeline.arrRefs (pcfgs (F := F) 0).spec ⊆ Pipeline.ucRefs τ sig :=
  Pipeline.arrRefs_sub_ucRefs _ winFacts0.arr_unscoped

/-- All the unscoped buffers are the kernel's arrays and the others. -/
theorem held_split (c : Dev nD) (W : Valuation τ sig (Elt F)) :
    (StableHlo.held (c : Thread nD τ) (Pipeline.ucRefs τ sig) W : sProp 𝕄)
      = iprop(StableHlo.held (c : Thread nD τ) (Pipeline.arrRefs (pcfgs (F := F) 0).spec) W
        ∗ StableHlo.held (c : Thread nD τ) (others (F := F)) W) :=
  StableHlo.held_sub_split (c : Thread nD τ) arrRefs_sub W

theorem region_pre (c : Dev nD) : iprop(StableHlo.held (c : Thread nD τ) (Pipeline.ucRefs τ sig) (V c)
    ∗ launched V c ∗ (∃ r, prngReg c r) ∗ owe c (O₀ c)) ⊢ (region V).pre c := by
  show _ ⊢ iprop(StableHlo.held (c : Thread nD τ) (Pipeline.arrRefs (pcfgs (F := F) 0).spec) (V c) ∗ (∃ r, prngReg c r)
    ∗ (StableHlo.held (c : Thread nD τ) (others (F := F)) (V c) ∗ emp) ∗ launched V c
    ∗ ∃ W, owes (c : Thread nD τ) (0 + O₀ c) W)
  rw [held_split, zero_add]
  unfold owe
  iintro ⟨⟨Ha, Ho⟩, Hl, Hp, HO⟩
  isplitl [Ha]; · iexact Ha
  isplitl [Hp]; · iexact Hp
  isplitl [Ho]
  · isplitl [Ho]; · iexact Ho
    iempintro
  isplitl [Hl]; · iexact Hl
  iexact HO
theorem region_post (c : Dev nD) : (region V).post c ⊢ iprop((StableHlo.held (c : Thread nD τ) (Pipeline.ucRefs τ sig) (V' V c)
    ∗ semVal (barCell c) 0) ∗ owe c 0) := by
  show iprop(StableHlo.held (c : Thread nD τ) (Pipeline.arrRefs (pcfgs (F := F) 0).spec) (V' V c) ∗ (∃ r, prngReg c r)
    ∗ (StableHlo.held (c : Thread nD τ) (others (F := F)) (V' V c) ∗ emp) ∗ semVal (barCell c) 0
    ∗ ∃ W, owes (c : Thread nD τ) (0 : CellTallies nD τ sig Unit) W) ⊢ _
  rw [held_split]
  unfold owe
  iintro ⟨Ha, -, ⟨Ho, -⟩, Hb, HO⟩
  isplitr [HO]
  · isplitl [Ha Ho]
    · isplitl [Ha]; · iexact Ha
      iexact Ho
    iexact Hb
  iexact HO

end Cert.KernelIdeal.Proof

end
-- ==== Proof.KernelIdeal.Launch.lean ====
/-
  The launch, and the run of the whole program.

  Every cell's invariant is allocated at the start: the barriers' from their counters, the copies' asleep,
  since their counters exist only while the kernel runs. The duties' tokens are dealt to the devices that pay
  them, and the credits to those that wait.
-/
module

public import proofs.«01_k».proof.Proof.KernelIdeal.Region
public import proofs.«01_k».proof.Proof.Gen.KernelIdeal.Regions

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ UU ℕ

/-! ## Cells and tokens -/

theorem dev_of_cell {c d : Dev nD} {s t : SemLoc sig} (h : (((c : Thread nD τ), s) : GSem nD τ sig) = ((d : Thread nD τ), t)) :
    c = d := congrArg (fun g : GSem nD τ sig => g.1.1) h

/-- The barriers' cells, -/
def barEmb : Dev nD ↪ GSem nD τ sig := ⟨barCell, fun _ _ h => dev_of_cell h⟩
/-- the copies' cells, -/
def cellEmb : Dev nD × K ↪ GSem nD τ sig :=
  ⟨fun p => cell p.1 p.2, fun _ _ h => Prod.ext (dev_of_cell h) (ownSems.inj (congrArg Prod.snd h))⟩
/-- and a token for each duty: two for a barrier, one for a copy's cell. -/
def tokEmb : Dev nD × (Bool ⊕ K) ↪ GSem nD τ sig × ℕ × Bool where
  toFun p := match p.2 with
    | .inl b => (barCell p.1, 0, b)
    | .inr k => (cell p.1 k, 0, false)
  inj' := by
    rintro ⟨c, b | k⟩ ⟨c', b' | k'⟩ h
    · exact Prod.ext (dev_of_cell (congrArg Prod.fst h)) (congrArg Sum.inl (congrArg (fun x => x.2.2) h))
    · exact absurd (congrArg (fun x => x.1.2) h).symm (osem_ne_bar k')
    · exact absurd (congrArg (fun x => x.1.2) h) (osem_ne_bar k)
    · exact Prod.ext (dev_of_cell (congrArg Prod.fst h)) (congrArg Sum.inr (ownSems.inj (congrArg (fun x => x.1.2) h)))

abbrev barCells : Finset (GSem nD τ sig) := Finset.univ.map barEmb
abbrev copyCells : Finset (GSem nD τ sig) := Finset.univ.map cellEmb
abbrev allToks : Finset (GSem nD τ sig × ℕ × Bool) := Finset.univ.map tokEmb

theorem cells_disjoint : Disjoint (barCells : Finset (GSem nD τ sig)) copyCells := by
  refine Finset.disjoint_left.mpr fun g hb hk => ?_
  obtain ⟨c, -, rfl⟩ := Finset.mem_map.mp hb
  obtain ⟨p, -, h⟩ := Finset.mem_map.mp hk
  exact osem_ne_bar p.2 (congrArg Prod.snd h)

/-- The ghost state at the start: the staging's, and the protocol's. -/
def u₀ : UU :=
  (initOf (Pipeline.cells (Pipeline.pin (pcfgs (F := F)) adm) cellOf_inj)
      (Pipeline.launchToks (Pipeline.pin (pcfgs (F := F)) adm) cellOf_inj),
    launchOf barCells copyCells allToks)

/-- The protocol's part, held by the first device until it is dealt. -/
def G₀ (c : Dev nD) : sProp 𝕄 :=
  if c = 0 then BI.own (ER (launchOf barCells copyCells allToks)) else iprop(emp)
theorem G₀_all : bigSep Finset.univ (G₀ (F := F)) = BI.own (ER (launchOf barCells copyCells allToks)) := by
  have h : ∀ c ∈ Finset.univ.erase (0 : Dev nD), (G₀ c : sProp 𝕄) = BI.emp := fun c hc =>
    if_neg (Finset.ne_of_mem_erase hc)
  rw [bigSep_univ_at _ (0 : Dev nD), bigSep_congr h, BI.bigSep_emp_const]
  exact (BI.equiv_iff.mp sep_emp).trans (if_pos rfl)

/-! ## Dealing the tokens -/

/-- The tokens of a device's own cells. -/
def ownToks (c : Dev nD) : sProp 𝕄 :=
  iprop((dutyTok ER (barCell c) 0 false ∗ dutyTok ER (barCell c) 0 true)
    ∗ ((bigSep Finset.univ fun i => dutyTok ER (cell c (pS i)) 0 false)
      ∗ (bigSep Finset.univ fun i => dutyTok ER (cell c (pR i)) 0 false))
    ∗ (bigSep Finset.univ fun j => dutyTok ER (cell c (oS j)) 0 false)
    ∗ (bigSep Finset.univ fun j => dutyTok ER (cell c (oR j)) 0 false))
/-- The tokens a device pays with: of its neighbours' barriers and receiving cells, and of its own sending ones. -/
def payToks (c : Dev nD) : sProp 𝕄 :=
  iprop((dutyTok ER (barCell (yN c)) 0 false ∗ dutyTok ER (barCell (xN c)) 0 true)
    ∗ ((bigSep Finset.univ fun i => dutyTok ER (cell c (pS i)) 0 false)
      ∗ (bigSep Finset.univ fun i => dutyTok ER (cell (yN c) (pR i)) 0 false))
    ∗ (bigSep Finset.univ fun j => dutyTok ER (cell c (oS j)) 0 false)
    ∗ (bigSep Finset.univ fun j => dutyTok ER (cell (xN c) (oR j)) 0 false))

theorem toks_own : bigSep allToks (fun x => (dutyTok ER x.1 x.2.1 x.2.2 : sProp 𝕄)) = bigSep Finset.univ ownToks := by
  rw [bigSep_map, bigSep_univ_prod]
  refine bigSep_congr fun c _ => ?_
  rw [BI.bigSep_univ_sum]
  unfold ownToks
  rw [show (Finset.univ : Finset Bool) = {false, true} from by decide, bigSep_insert (by decide), bigSep_singleton]
  exact congrArg₂ BI.sep rfl (bigSep_K fun k => dutyTok ER (cell c k) 0 false)

theorem toks_deal : (bigSep Finset.univ fun c : Dev nD => (ownToks c : sProp 𝕄)) ⊢ bigSep Finset.univ payToks := by
  unfold ownToks payToks
  simp only [bigSep_sep']
  rw [bigSep_univ_equiv yEquiv (fun c : Dev nD => (dutyTok ER (barCell c) 0 false : sProp 𝕄)),
    bigSep_univ_equiv xEquiv (fun c : Dev nD => (dutyTok ER (barCell c) 0 true : sProp 𝕄)),
    bigSep_univ_equiv yEquiv (fun c : Dev nD => (bigSep Finset.univ fun i => dutyTok ER (cell c (pR i)) 0 false : sProp 𝕄)),
    bigSep_univ_equiv xEquiv (fun c : Dev nD => (bigSep Finset.univ fun j => dutyTok ER (cell c (oR j)) 0 false : sProp 𝕄))]
  exact BI.Entails.refl _

/-! ## The credits -/

theorem tally_at (g g' : GSem nD τ sig) (n : ℕ) :
    (tallyAt g () n : CellTallies nD τ sig Unit) g' () = if g' = g then n else 0 := by
  rw [tallyAt_apply]
  by_cases h : g' = g
  · rw [if_pos ⟨h, rfl⟩, if_pos h]
  · rw [if_neg fun e => h e.1, if_neg h]

theorem tail_at {n : ℕ} (f : Fin n → CellTallies nD τ sig Unit) (g : GSem nD τ sig) :
    tail f 0 g () = ∑ i, f i g () := by
  unfold tail
  rw [Finset.filter_true_of_mem fun i _ => Nat.zero_le _, Finset.sum_apply, Finsupp.finset_sum_apply]

/-- What device `d` owes any cell. -/
theorem owed_at (d : Dev nD) (g : GSem nD τ sig) :
    O₀ d g () = (∑ j, if g = cell (xN d) (oR j) then N else 0) + (∑ i, if g = cell (yN d) (pR i) then N else 0)
      + (if g = barCell (xN d) then 1 else 0) + (if g = barCell (yN d) then 1 else 0) := by
  unfold O₀
  simp only [Pi.add_apply, Finsupp.add_apply, tail_at, tally_at]

theorem bar_eq {c d : Dev nD} : barCell c = barCell d ↔ c = d := ⟨dev_of_cell, fun h => h ▸ rfl⟩
theorem bar_ne {c d : Dev nD} {k : K} : barCell c ≠ cell d k := fun h => osem_ne_bar k (congrArg Prod.snd h).symm
theorem cell_eq {c d : Dev nD} {k l : K} : cell c k = cell d l ↔ c = d ∧ k = l :=
  ⟨fun h => ⟨dev_of_cell h, ownSems.inj (congrArg Prod.snd h)⟩, fun h => by rw [h.1, h.2]⟩

theorem own_sum {n : ℕ} (k : Fin n → K) (hk : Function.Injective k) (c d : Dev nD) (i : Fin n) :
    (∑ i', if cell c (k i) = cell d (k i') then N else 0) = if c = d then N else 0 := by
  by_cases h : c = d
  · subst h
    rw [Finset.sum_congr rfl fun i' _ => if_congr (cell_eq.trans
      ⟨fun h => hk h.2, fun h => ⟨rfl, congrArg k h⟩⟩ : cell c (k i) = cell c (k i') ↔ i = i') rfl rfl,
      Finset.sum_ite_eq, if_pos (Finset.mem_univ _), if_pos rfl]
  · rw [if_neg h]
    exact Finset.sum_eq_zero fun i' _ => if_neg fun e => h (cell_eq.mp e).1

theorem pR_inj : Function.Injective pR := fun _ _ h => by cases h; rfl
theorem oR_inj : Function.Injective oR := fun _ _ h => by cases h; rfl
theorem pR_ne_oR {i : Fin 9} {j : Fin 7} : pR i ≠ oR j := fun h => by cases h

theorem owed_bar (d c : Dev nD) : O₀ d (barCell c) () = (if c = xN d then 1 else 0) + if c = yN d then 1 else 0 := by
  rw [owed_at, Finset.sum_eq_zero fun j _ => if_neg bar_ne, Finset.sum_eq_zero fun i _ => if_neg bar_ne,
    Nat.zero_add, Nat.zero_add, if_congr bar_eq rfl rfl, if_congr bar_eq rfl rfl]
theorem owed_pR (d c : Dev nD) (i : Fin 9) : O₀ d (cell c (pR i)) () = if c = yN d then N else 0 := by
  rw [owed_at, Finset.sum_eq_zero fun j _ => if_neg fun h => pR_ne_oR (cell_eq.mp h).2, own_sum pR pR_inj,
    if_neg bar_ne.symm, if_neg bar_ne.symm, Nat.zero_add]; rfl
theorem owed_oR (d c : Dev nD) (j : Fin 7) : O₀ d (cell c (oR j)) () = if c = xN d then N else 0 := by
  rw [owed_at, own_sum oR oR_inj, Finset.sum_eq_zero fun j _ => if_neg fun h => pR_ne_oR (cell_eq.mp h).2.symm,
    if_neg bar_ne.symm, if_neg bar_ne.symm]; rfl

/-- The launch's credit on a cell is the sum of what the devices owe it. -/
theorem launch_at (g : GSem nD τ sig) (n : ℕ) (h : ∑ d, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same]
  exact h

theorem sum_y (c : Dev nD) (n : ℕ) : (∑ d, if c = yN d then n else 0) = n := by
  rw [Finset.sum_congr rfl fun d _ => if_congr (show c = yN d ↔ yN c = d from
    ⟨fun h => by rw [h, yN_yN], fun h => by rw [← h, yN_yN]⟩) rfl rfl]
  rw [Finset.sum_ite_eq, if_pos (Finset.mem_univ _)]
theorem sum_x (c : Dev nD) (n : ℕ) : (∑ d, if c = xN d then n else 0) = n := by
  rw [Finset.sum_congr rfl fun d _ => if_congr (show c = xN d ↔ xN c = d from
    ⟨fun h => by rw [h, xN_xN], fun h => by rw [← h, xN_xN]⟩) rfl rfl]
  rw [Finset.sum_ite_eq, if_pos (Finset.mem_univ _)]

theorem launch_bar (c : Dev nD) :
    tallyOn (barCell c) (launchCredit (Pipeline.owing O₀) 0 (barCell c)) = (tallyAt (barCell c) () 2 : CellTallies nD τ sig Unit) :=
  launch_at _ _ ((Finset.sum_congr rfl fun d _ => owed_bar d c).trans (by rw [Finset.sum_add_distrib, sum_x, sum_y]))
theorem launch_pR (c : Dev nD) (i : Fin 9) :
    tallyOn (cell c (pR i)) (launchCredit (Pipeline.owing O₀) 0 (cell c (pR i))) = (tallyAt (cell c (pR i)) () N : CellTallies nD τ sig Unit) :=
  launch_at _ _ ((Finset.sum_congr rfl fun d _ => owed_pR d c i).trans (sum_y c N))
theorem launch_oR (c : Dev nD) (j : Fin 7) :
    tallyOn (cell c (oR j)) (launchCredit (Pipeline.owing O₀) 0 (cell c (oR j))) = (tallyAt (cell c (oR j)) () N : CellTallies nD τ sig Unit) :=
  launch_at _ _ ((Finset.sum_congr rfl fun d _ => owed_oR d c j).trans (sum_x c N))

/-- The semaphores other units arrive at. -/
def waitEmb : Fin 9 ⊕ Fin 7 ↪ SemLoc sig where
  toFun
    | .inl i => osem (pR i)
    | .inr j => osem (oR j)
  inj' := by
    rintro (i | j) (i' | j') h
    · exact congrArg Sum.inl (pR_inj (ownSems.inj h))
    · exact absurd (ownSems.inj h) pR_ne_oR
    · exact absurd (ownSems.inj h).symm pR_ne_oR
    · exact congrArg Sum.inr (oR_inj (ownSems.inj h))

theorem creds (c : Dev nD) : (Pipeline.launchCred O₀ c : sProp 𝕄) ⊢ credits c := by
  unfold Pipeline.launchCred credits
  rw [bigSep_univ_at _ (SemLoc.reg barS), launch_bar]
  refine sep_mono_right ?_
  have hs : Finset.univ.map waitEmb ⊆ Finset.univ.erase (SemLoc.reg barS) := fun s hs => by
    obtain ⟨w, -, rfl⟩ := Finset.mem_map.mp hs
    refine Finset.mem_erase.mpr ⟨?_, Finset.mem_univ _⟩
    rcases w with i | j <;> exact osem_ne_bar _
  refine BIBase.Entails.trans (bigSep_subset (M := 𝕄) hs) ?_
  rw [bigSep_map, BI.bigSep_univ_sum]
  refine Entails.of_eq (congrArg₂ BI.sep (bigSep_congr fun i _ => ?_) (bigSep_congr fun j _ => ?_))
  · exact congrArg cred (launch_pR c i)
  · exact congrArg cred (launch_oR c j)

/-! ## The launch -/

section Run

variable (m : (ℓ : Loc nD τ sig) → Buf (Elt F) ℓ) (ρ : Dev nD → PrngReg)

/-- The buffers when the kernel starts: the launch's, after the operations before it. -/
def entry (c : Dev nD) : Valuation τ sig (Elt F) := V1 m c

/-- What every device may rely on. -/
def records (κ : GSem nD τ sig → ℕ) : sProp 𝕄 :=
  iprop(((bigSep Finset.univ fun d : Dev nD => cellInv ER (rd (argP (entry m)) (argR (entry m)) (argG (entry m))) (κ (barCell d)) (barCell d))
      ∗ bigSep Finset.univ fun p : Dev nD × K =>
        cellInv ER (rd (argP (entry m)) (argR (entry m)) (argG (entry m))) (κ (cell p.1 p.2)) (cell p.1 p.2))
    ∗ bigSep Finset.univ fun d : Dev nD => reached ER (barCell d) 0)
instance records_persistent (κ : GSem nD τ sig → ℕ) : BI.Persistent (records m κ) := by unfold records; infer_instance

/-- What is a device's alone. -/
def share (c : Dev nD) : sProp 𝕄 :=
  iprop((atPos ER (barCell c) 0 ∅ 0 ∗ (bigSep Finset.univ fun k => openTok ER (cell c k)) ∗ payToks c)
    ∗ (StableHlo.held (c : Thread nD τ) (Pipeline.ucRefs τ sig) (V0 m c) ∗ credits c ∗ owe c (O₀ c) ∗ ∃ r, prngReg c r))

/-- A device's state beside its buffers: before the kernel, and after. -/
def beside : Fin 2 → Dev nD → sProp 𝕄
  | 0, c => iprop(launched (entry m) c ∗ (∃ r, prngReg c r) ∗ owe c (O₀ c))
  | 1, c => iprop(semVal (barCell c) 0 ∗ owe c 0)

theorem reached_at (d : Dev nD) : (bigSep Finset.univ fun d : Dev nD => (reached ER (barCell d) 0 : sProp 𝕄)) ⊢ reached ER (barCell d) 0 :=
  bigSep_elim (Finset.mem_univ d)

theorem start_intro (κ : GSem nD τ sig → ℕ) (c : Dev nD) : iprop(records m κ ∗ share m c)
    ⊢ iprop(StableHlo.held (c : Thread nD τ) (Pipeline.ucRefs τ sig) (V0 m c) ∗ beside m 0 c) := by
  unfold records share beside launched ghost payToks
  iintro ⟨⟨#HI, #HR⟩, ⟨Hat, Hopen, ⟨⟨Hy, Hx⟩, ⟨HpS, HpR⟩, HoS, HoR⟩⟩, Hh, Hcr, HO, Hp⟩
  isplitl [Hh]; · iexact Hh
  isplitr [HO Hp]
  · isplitr [Hcr]
    · iexists κ
      isplitr; · iexact HI
      isplitr [Hopen]
      · isplitr
        · isplitr
          · iapply (reached_at (F := F) (yN c)); iexact HR
          iapply (reached_at (F := F) (xN c)); iexact HR
        isplitl [Hy Hx]
        · isplitl [Hy]; · iexact Hy
          iexact Hx
        isplitl [HpS]; · iexact HpS
        isplitl [HpR]; · iexact HpR
        isplitl [HoS]; · iexact HoS
        isplitl [HoR]; · iexact HoR
        iexact Hat
      iexact Hopen
    iexact Hcr
  isplitl [Hp]; · iexact Hp
  iexact HO

/-- The one counter outside the kernel's is the barrier's. -/
theorem unscoped_eq : ∀ s : SemLoc sig, s.isScoped .tc = false → s = .reg barS := by decide
theorem unscoped_sems (c : Dev nD) : (unscopedSems0 c : sProp 𝕄) = semVal (barCell c) 0 := by
  unfold unscopedSems0
  rw [show (Finset.univ.filter fun s : SemLoc sig => ¬s.isScoped .tc = true) = {.reg barS} from by decide +kernel, bigSep_singleton]

theorem all_pair {Φ Ψ : Dev nD → sProp 𝕄} :
    iprop(bigSep Finset.univ Φ ∗ bigSep Finset.univ Ψ) ⊢ bigSep Finset.univ fun c => iprop(Φ c ∗ Ψ c) :=
  Entails.of_eq (bigSep_sep' _ _ _).symm
theorem all_unpair {Φ Ψ : Dev nD → sProp 𝕄} :
    (bigSep Finset.univ fun c => iprop(Φ c ∗ Ψ c)) ⊢ iprop(bigSep Finset.univ Φ ∗ bigSep Finset.univ Ψ) :=
  Entails.of_eq (bigSep_sep' _ _ _)

/-- Every device's state at the start, from what the launch gives. -/
theorem launch_all :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G₀ c)) ∗ levAts L lv)
      ⊢ (|={Set.univ}=> bigSep Finset.univ fun c : Dev nD =>
          iprop(StableHlo.held (c : Thread nD τ) (Pipeline.ucRefs τ sig) (V0 m c) ∗ beside m 0 c) : sProp 𝕄) := by
  let B (c : Dev nD) : sProp 𝕄 :=
    iprop(StableHlo.held (c : Thread nD τ) (Pipeline.ucRefs τ sig) (V0 m c) ∗ credits c ∗ owe c (O₀ c) ∗ ∃ r, prngReg c r)
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G₀ c)
      ⊢ (iprop(B c ∗ (semVal (barCell c) 0 ∗ G₀ c)) : sProp 𝕄) := by
    rw [show unscopedBufs c (fun b => m ((c.tc : Thread nD τ).loc b)) = StableHlo.held (c : Thread nD τ) (Pipeline.ucRefs τ sig) (V0 m c)
      from Pipeline.unscopedBufs_held c (V0 m c), unscoped_sems]
    iintro ⟨Hh, Hs, HO, Hcr, Hp, HG⟩
    isplitr [Hs HG]
    · isplitl [Hh]; · iexact Hh
      isplitl [Hcr]; · iapply (creds (F := F) c); iexact Hcr
      isplitl [HO]; · unfold owe; iexists ∅; iexact HO
      iexists (ρ c); iexact Hp
    isplitl [Hs]; · iexact Hs
    iexact HG
  have hall : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G₀ c))
      ⊢ (bigSep Finset.univ fun c : Dev nD => iprop(B c ∗ (semVal (barCell c) 0 ∗ G₀ c)) : sProp 𝕄) := bigSep_mono fun c _ => hcore c
  have hsem : (bigSep Finset.univ fun c : Dev nD => (semVal (barCell c) 0 : sProp 𝕄)) ⊢ bigSep barCells fun g => semVal g 0 :=
    Entails.of_eq (bigSep_map (s := Finset.univ) barEmb (Φ := fun g : GSem nD τ sig => (semVal g 0 : sProp 𝕄))).symm
  have hat : (bigSep barCells fun g => (atPos ER g 0 ∅ 0 : sProp 𝕄)) ⊢ bigSep Finset.univ fun c : Dev nD => atPos ER (barCell c) 0 ∅ 0 :=
    Entails.of_eq (bigSep_map (s := Finset.univ) barEmb (Φ := fun g : GSem nD τ sig => (atPos ER g 0 ∅ 0 : sProp 𝕄)))
  have hre : (bigSep barCells fun g => (reached ER g 0 : sProp 𝕄)) ⊢ bigSep Finset.univ fun c : Dev nD => reached ER (barCell c) 0 :=
    Entails.of_eq (bigSep_map (s := Finset.univ) barEmb (Φ := fun g : GSem nD τ sig => (reached ER g 0 : sProp 𝕄)))
  have hop : (bigSep copyCells fun g => (openTok ER g : sProp 𝕄))
      ⊢ bigSep Finset.univ fun c : Dev nD => bigSep Finset.univ fun k => openTok ER (cell c k) :=
    Entails.of_eq (by rw [bigSep_map, bigSep_univ_prod]; rfl)
  have hinv (κ : GSem nD τ sig → ℕ) : (bigSep (barCells ∪ copyCells) fun g =>
        (cellInv ER (rd (argP (entry m)) (argR (entry m)) (argG (entry m))) (κ g) g : sProp 𝕄))
      ⊢ iprop((bigSep Finset.univ fun d : Dev nD => cellInv ER (rd (argP (entry m)) (argR (entry m)) (argG (entry m))) (κ (barCell d)) (barCell d))
        ∗ bigSep Finset.univ fun p : Dev nD × K =>
          cellInv ER (rd (argP (entry m)) (argR (entry m)) (argG (entry m))) (κ (cell p.1 p.2)) (cell p.1 p.2)) :=
    Entails.of_eq (by rw [bigSep_union cells_disjoint, bigSep_map, bigSep_map]; rfl)
  iintro ⟨H, -⟩
  ihave H := hall $$ H
  ihave H := all_unpair $$ H; icases H with ⟨HB, H⟩
  ihave H := all_unpair $$ H; icases H with ⟨Hs, HG⟩
  ihave HG := (Entails.of_eq (G₀_all (F := F))) $$ HG
  imod (Rounds.fund_launch ER (rd (argP (entry m)) (argR (entry m)) (argG (entry m))) cells_disjoint (fun _ _ h => h) allToks)
    $$ [Hs HG] with ⟨%κ, -, #Hinv, #Hre, Hat, Hop, Htok⟩
  · isplitl [Hs]
    · iapply hsem; iexact Hs
    iexact HG
  imodintro
  iapply (bigSep_with_persistent (R := records m κ) (Φ := share m) fun c _ => start_intro m κ c)
  isplitr
  · unfold records
    isplitr; · iapply (hinv κ); iexact Hinv
    iapply hre; iexact Hre
  unfold share
  iapply (all_pair (F := F))
  isplitr [HB]
  · iapply (all_pair (F := F)); isplitl [Hat]; · iapply hat; iexact Hat
    iapply (all_pair (F := F)); isplitl [Hop]; · iapply hop; iexact Hop
    iapply (toks_deal (F := F))
    iapply (Entails.of_eq (toks_own (F := F))); iexact Htok
  iexact HB

/-- What a device's memory holds at the end, and the barrier's counter. -/
def Ends (c : Dev nD) (s : MemSt nD τ sig (Elt F)) : Prop :=
  (s.mem ((c.tc : Thread nD τ).loc main_v15) = res (entry m) c
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2))
  ∧ s.sem (barCell c) = 0

theorem kept (c : Dev nD) (r : Ref sig .tc) (h : Proc.devRef (τ := τ) .tc r ≠ Proc.devRef .tc main_v15)
    (h1 : V1 m c (Proc.devRef .tc r) = V0 m c (Proc.devRef .tc r)) :
    V' (entry m) c (Proc.devRef .tc r) = m ((c.tc : Thread nD τ).loc r) :=
  (V'_of (entry m) c _ h).trans h1

theorem ends (c : Dev nD) (s' : Phys nD τ sig (Elt F)) :
    iprop((StableHlo.held (c : Thread nD τ) (Pipeline.ucRefs τ sig) (V' (entry m) c) ∗ semVal (barCell c) 0) ∗ SI s')
      ⊢ (|={Set.univ}=> iprop(⌜Ends m c s'.mem⌝ ∗ SI s') : sProp 𝕄) := by
  unfold StableHlo.held
  iintro ⟨⟨Hh, Hb⟩, HSI⟩
  ihave Hr := (pointsTo_read_all (Pipeline.ucRefs τ sig) (fun b => ((c : Thread nD τ).1, b)) (V' (entry m) c) s') $$ [Hh HSI]
  · isplitl [Hh] <;> iassumption
  icases Hr with ⟨%h, HSI⟩
  icombine HSI Hb gives %hb
  imodintro
  isplitr
  · ipureintro
    exact ⟨⟨(h (Proc.devRef .tc main_v15) (Finset.mem_filter.mpr ⟨StableHlo.devRef_mem_tcRefs main_v15, by decide⟩)).trans (V'_res (entry m) c),
      (h (Proc.devRef .tc main_arg0) (Finset.mem_filter.mpr ⟨StableHlo.devRef_mem_tcRefs main_arg0, by decide⟩)).trans
        (kept m c _ (by decide) (V1_of m c _ (by decide))),
      (h (Proc.devRef .tc main_arg1) (Finset.mem_filter.mpr ⟨StableHlo.devRef_mem_tcRefs main_arg1, by decide⟩)).trans
        (kept m c _ (by decide) (V1_of m c _ (by decide))),
      (h (Proc.devRef .tc main_arg2) (Finset.mem_filter.mpr ⟨StableHlo.devRef_mem_tcRefs main_arg2, by decide⟩)).trans
        (kept m c _ (by decide) (V1_of m c _ (by decide)))⟩, by simpa using hb⟩
  · iexact HSI

set_option backward.isDefEq.respectTransparency.types false in
/-- Every weakly fair execution of the program ends, with each device's result computed from the rows the
    operations before the kernel cut out, the arguments as launched and every counter at zero. -/
theorem run_main : θ_run defs (onTc (τ := τ) (main (F := F))) ⟨m, fun _ => 0, ρ⟩ fun r =>
    (∀ c : Dev nD, r.2.mem ((c.tc : Thread nD τ).loc main_v15) = res (entry m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0 := by
  refine Pipeline.θ_run_regions_kit_dev_sems (pcfgs (F := F)) adm (dats (entry m)) () cellOf_inj EP defs₀ 𝒱₀ L lv m ρ main
    (segs m 𝒱₀ L lv (beside m) () (dats (entry m)) (region (entry m)))
    (fun c Q => by
      rewrite [main_chain c, Seg.run_eq_chain,
        show (segs m 𝒱₀ L lv (beside m) () (dats (entry m)) (region (entry m)) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide)
    (O₀ := O₀) (hL := L_of_ne) (G := G₀) (u₀ := u₀ (F := F)) (hu₀ := ?_)
    (T₀ := fun c => iprop(StableHlo.held (c : Thread nD τ) (Pipeline.ucRefs τ sig) (V0 m c) ∗ beside m 0 c))
    (Tₙ := fun c => iprop(StableHlo.held (c : Thread nD τ) (Pipeline.ucRefs τ sig) (V' (entry m) c) ∗ semVal (barCell c) 0))
    (hch := fun c => ⟨.rfl, region_pre (entry m) c, region_post (entry m) c⟩)
    (hinit := launch_all m ρ) (QY := Ends m) (hfin := ends m) (hQ := fun s h hs => ⟨fun c => (h c).1, ?_⟩)
  · unfold u₀
    iintro Hu
    ihave H := (ownU_pair _ _) $$ Hu
    icases H with ⟨HP, HX⟩
    imodintro
    isplitl [HP]; · iexact HP
    rw [G₀_all]
    iexact HX
  · exact sem_eq_zero hs fun c sm hsm => by obtain rfl := unscoped_eq sm hsm; exact (h c).2

end Run

end Cert.KernelIdeal.Proof

end
-- ==== Proof.Value.lean ====
/-
  What the runs compute, in extended reals.

  A row of the result is the row of the sum over the second axis and the residual, divided by the root of the
  mean of its squares (and the small constant), times the weights. A chunk of the kernel's is that, row by
  row; so is the reference's result; and a device's chunks lie at the rows its arguments were cut from.
-/
module

public import proofs.«01_k».proof.Proof.KernelIdeal.Launch
public import proofs.«01_k».proof.Proof.Gen.ReferenceIdeal.Run
public import Idealize.ShloMosaic.Lib.Pointwise
public import Idealize.ShloMosaic.Lib.Layout
public import Idealize.ShloMosaic.Lib.DynamicIndex
public import Idealize.ShloMosaic.Lib.StableHlo.RunClose

@[expose] public section

noncomputable section

namespace Cert.Proof

open Idealize.ShloMosaic Idealize.ShloMosaic.TcCoe Idealize.ShloMosaic.StableHlo
open Idealize.SL.Sem
open scoped BigOperators

/-! ## The arithmetic -/

theorem square_nonneg (x : EReal) : 0 ≤ x * x := by
  induction x with
  | bot => simp
  | coe r => rw [← EReal.coe_mul]; exact EReal.coe_nonneg.mpr (mul_self_nonneg r)
  | top => simp

/-- To multiply by the reciprocal root is to divide by the root. -/
theorem mul_rsqrt (y a : EReal) (ha : 0 < a) : y * Ideal.rsqrt a = Ideal.div y (Ideal.sqrt a) := by
  induction a with
  | bot => simp at ha
  | top => simp [Ideal.div]
  | coe r =>
    have h : 0 < r := EReal.coe_pos.mp ha
    have h' : Real.sqrt r ≠ 0 := (Real.sqrt_pos.mpr h).ne'
    rw [Ideal.rsqrt_coe, Ideal.sqrt_coe, if_neg h.not_gt, if_neg h.ne', if_neg h.not_gt, Ideal.div_coe h', one_div]

theorem count_eq : Ideal.ofBits .f32 0x44800000#32 = ((1024 : ℝ) : EReal) := by
  simp [Ideal.ofBits, Ideal.ieee, -EReal.coe_mul]; norm_num
theorem small_pos : 0 < Ideal.ofBits .f32 0x358637BD#32 := by
  simp [Ideal.ofBits, Ideal.ieee, -EReal.coe_mul]

/-- The mean of the squares of a row, and the small constant. -/
def meanSq (y : Fin 1024 → EReal) : EReal :=
  Ideal.div (∑ k, y k * y k) (Ideal.ofBits .f32 0x44800000#32) + Ideal.ofBits .f32 0x358637BD#32
theorem meanSq_pos (y : Fin 1024 → EReal) : 0 < meanSq y := by
  unfold meanSq
  rw [count_eq, Ideal.div_coe (by norm_num)]
  exact lt_of_lt_of_le small_pos (le_add_of_nonneg_left
    (mul_nonneg (Finset.sum_nonneg fun k _ => square_nonneg _) (EReal.coe_nonneg.mpr (by norm_num))))

/-- One element of the result. -/
def normed (y : Fin 1024 → EReal) (g : EReal) (l : Fin 1024) : EReal :=
  Ideal.div (y l) (Ideal.sqrt (meanSq y)) * g

/-! ## The kernel's chunks -/

section Kernel

open Cert.KernelIdeal Cert.KernelIdeal.Gen Cert.KernelIdeal.Proof

theorem chunk_at (g : Vec Ideal S1024 .bf16) (p q r : Vec Ideal S64x1024 .bf16) (a : Fin 64) (l : Fin 1024) :
    chunkVal g p (asSlot q) r (ix2 a l) = normed (fun k => p (ix2 a k) + q (ix2 a k) + r (ix2 a k)) (g (ix1 l)) l := by
  unfold normed
  rw [← mul_rsqrt _ _ (meanSq_pos _)]
  unfold meanSq
  pointwise [chunkVal, k0_pay1, k0_pay2, k0_pay3, asSlot]

/-- The first of the rows that a device's arguments are cut at. -/
def firstRow (c : Dev nD) : ℕ := 448 * (c.val / 2)

theorem cut_P (m : (ℓ : Loc nD τ sig) → Buf (Elt Ideal) ℓ) (c : Dev nD) :
    argP (entry m) c = extractStridedSlice S576x1024 ![firstRow c, 0]
      (shapeCast S1024x1024 (m ((c.tc : Thread nD τ).loc main_arg0) : Vec Ideal S1x1024x1024 .bf16) shapeCasts_S1x1024x1024_S1024x1024)
      (by revert c; decide) := by
  unfold argP entry V1 hostOps0
  after_results_simp_entrywise
  refine Host.dynamicSlice_eq_extractStridedSlice _ _ _ _ _ _ fun k => ?_
  match k with
  | 0 =>
    simp only [Matrix.cons_val_zero]
    revert c
    decide
  | 1 => rfl

theorem cut_R (m : (ℓ : Loc nD τ sig) → Buf (Elt Ideal) ℓ) (c : Dev nD) :
    argR (entry m) c = extractStridedSlice S576x1024 ![firstRow c, 0]
      (m ((c.tc : Thread nD τ).loc main_arg1) : Vec Ideal S1024x1024 .bf16) (by revert c; decide) := by
  unfold argR entry V1 hostOps0
  after_results_simp_entrywise
  refine Host.dynamicSlice_eq_extractStridedSlice _ _ _ _ _ _ fun k => ?_
  match k with
  | 0 =>
    simp only [Matrix.cons_val_zero]
    revert c
    decide
  | 1 => rfl

theorem whole_G (m : (ℓ : Loc nD τ sig) → Buf (Elt Ideal) ℓ) (c : Dev nD) :
    argG (entry m) c = m ((c.tc : Thread nD τ).loc main_arg2) := by
  unfold argG entry
  exact V1_of m c _ (by decide)

/-- A device's place along the mesh's second axis. -/
def col (d : Dev nD) : Fin 2 := ⟨d.val % 2, Nat.mod_lt _ (by decide)⟩

variable (m : (ℓ : Loc nD τ sig) → Buf (Elt Ideal) ℓ) (A0 : FVec Ideal ⟨3, ![2, 1024, 1024]⟩ .bf16)
  (A1 : FVec Ideal ⟨2, ![1024, 1024]⟩ .bf16) (A2 : FVec Ideal ⟨1, ![1024]⟩ .bf16)

/-- The devices' arguments are parts of three whole ones. -/
def Agree : Prop := ∀ c : Dev nD,
  m ((c.tc : Thread nD τ).loc main_arg0) = Layout.blockN ⟨3, ![1, 1024, 1024]⟩ ⟨3, ![2, 1024, 1024]⟩ (Layout.meshBlock [2, 2] ![[1], [], []] c) A0
    ∧ m ((c.tc : Thread nD τ).loc main_arg1) = A1 ∧ m ((c.tc : Thread nD τ).loc main_arg2) = A2

/-- A leading axis of one, dropped; and rows cut out. -/
theorem drop_at (X : Vec Ideal S1x1024x1024 .bf16) (r k : Fin 1024) :
    shapeCast S1024x1024 X shapeCasts_S1x1024x1024_S1024x1024 (ix2 r k) = X (ix3 0 r k) := by
  pointwise []
theorem cut_at (X : Vec Ideal S1024x1024 .bf16) (d : Dev nD) (hs : S1024x1024.Slices ![firstRow d, 0] S576x1024) (b : Fin 576) (k r : Fin 1024)
    (hr : r.val = firstRow d + b.val) : extractStridedSlice S576x1024 ![firstRow d, 0] X hs (ix2 b k) = X (ix2 r k) := by
  rw [show r = ⟨firstRow d + b.val, hr ▸ r.isLt⟩ from Fin.ext hr]
  pointwise []
/-- Row `b` of a device's staged arguments is row `r` of the whole ones. -/
theorem P_at (h : Agree m A0 A1 A2) (d : Dev nD) (b : Fin 576) (k r : Fin 1024) (hr : r.val = firstRow d + b.val) :
    argP (entry m) d (ix2 b k) = A0 (ix3 (col d) r k) := by
  rw [cut_P, cut_at _ d _ b k r hr, drop_at, (h d).1, Layout.blockN_apply]
  refine congrArg A0 (funext fun x => Fin.ext ?_)
  match x with
  | 0 => exact (by decide : ∀ d : Dev nD, ((Layout.meshBlock [2, 2] ![[1], [], []] d : (b : Fin 3) → _) 0).val * 1 + 0 = (col d).val) d
  | 1 => exact Nat.zero_add _
  | 2 => exact Nat.zero_add _
theorem R_at (h : Agree m A0 A1 A2) (d : Dev nD) (b : Fin 576) (k r : Fin 1024) (hr : r.val = firstRow d + b.val) :
    argR (entry m) d (ix2 b k) = A1 (ix2 r k) := by
  rw [cut_R, cut_at _ d _ b k r hr, (h d).2.1]

/-- The rows of a staged argument that chunk `i` reads, -/
theorem emb_L (d : Dev nD) (i : Fin 9) (a : Fin 64) (k : Fin 1024) :
    (rectL d i).emb (ix2 a k) = ix2 ⟨64 * blkL d i + a.val, by unfold blkL; split <;> omega⟩ k := by
  funext x
  apply Fin.ext
  show k0_off1 d (k0_off1_at i).1 (k0_off1_at i).2 x + 1 * (ix2 a k x).val = _
  rw [offL]
  match x with
  | 0 => exact congrArg (64 * blkL d i + ·) (Nat.one_mul _)
  | 1 => exact (Nat.zero_add _).trans (Nat.one_mul _)
/-- and of the result that it writes. -/
theorem emb_O (d : Dev nD) (i : Fin 9) (a : Fin 64) (k : Fin 1024) :
    (rectO d i).emb (ix2 a k) = ix2 ⟨64 * blkO d i + a.val, by unfold blkO; split <;> omega⟩ k := by
  funext x
  apply Fin.ext
  show k0_off3 d (k0_off3_at i).1 (k0_off3_at i).2 x + 1 * (ix2 a k x).val = _
  rw [offO]
  match x with
  | 0 => exact congrArg (64 * blkO d i + ·) (Nat.one_mul _)
  | 1 => exact (Nat.zero_add _).trans (Nat.one_mul _)

theorem rows_eq : ∀ (d : Dev nD) (i : Fin 9), 64 * blkO d i = firstRow d + 64 * blkL d i := by decide +kernel
theorem blkL_yN : ∀ (d : Dev nD) (i : Fin 9), blkL (yN d) i = blkL d i := by decide +kernel
theorem firstRow_yN : ∀ d : Dev nD, firstRow (yN d) = firstRow d := by decide +kernel
theorem col_yN : ∀ d : Dev nD, (col d = 0 ∧ col (yN d) = 1) ∨ (col d = 1 ∧ col (yN d) = 0) := by decide +kernel

/-- A chunk, element by element. -/
theorem outC_at (h : Agree m A0 A1 A2) (d : Dev nD) (i : Fin 9) (a : Fin 64) (l r : Fin 1024) (hr : r.val = 64 * blkO d i + a.val) :
    outC (argP (entry m)) (argR (entry m)) (argG (entry m)) d i (ix2 a l)
      = normed (fun k => A0 (ix3 0 r k) + A0 (ix3 1 r k) + A1 (ix2 r k)) (A2 (ix1 l)) l := by
  have hd : r.val = firstRow d + (64 * blkL d i + a.val) := by rw [hr, rows_eq, Nat.add_assoc]
  have hy : r.val = firstRow (yN d) + (64 * blkL (yN d) i + a.val) := by rw [hd, firstRow_yN, blkL_yN]
  unfold outC
  rw [chunk_at, whole_G, (h d).2.2]
  refine congrArg (fun y => normed y _ l) (funext fun k => ?_)
  unfold rowsAt
  rw [emb_L, emb_L, P_at m A0 A1 A2 h d _ k r hd, P_at m A0 A1 A2 h (yN d) _ k r hy, R_at m A0 A1 A2 h d _ k r hd]
  rcases col_yN d with ⟨e, e'⟩ | ⟨e, e'⟩ <;> rw [e, e']
  rw [add_comm (A0 _)]

/-- A device's result, element by element. -/
theorem res_at (h : Agree m A0 A1 A2) (c : Dev nD) (r l : Fin 1024) :
    res (entry m) c (ix2 r l) = normed (fun k => A0 (ix3 0 r k) + A0 (ix3 1 r k) + A1 (ix2 r k)) (A2 (ix1 l)) l := by
  have hc := Finset.mem_univ (ix2 r l : S1024x1024.Idx)
  rw [← rectP_cover c] at hc
  obtain ⟨t, -, ht⟩ := Finset.mem_biUnion.mp hc
  rw [← Rect.map_emb_univ] at ht
  obtain ⟨j, -, hj⟩ := Finset.mem_map.mp ht
  obtain ⟨a, l', rfl⟩ : ∃ (a : Fin 64) (l' : Fin 1024), j = (ix2 a l' : S64x1024.Idx) := ⟨j 0, j 1, eq_ix2 j⟩
  have hj' := (emb_O _ _ a l').symm.trans hj
  have hr : r.val = 64 * blkO (owner c t).1 (owner c t).2 + a.val := (congrArg (fun x : S1024x1024.Idx => (x 0).val) hj').symm
  have hl : l' = l := congrArg (fun x : S1024x1024.Idx => x 1) hj'
  subst hl
  rw [← hj]
  exact (congrFun (outV_part (argP (entry m)) (argR (entry m)) (argG (entry m)) c t) (ix2 a l')).trans
    (outC_at m A0 A1 A2 h _ _ a l' r hr)

end Kernel

section Ref
open Cert.ReferenceIdeal Cert.ReferenceIdeal.Gen
def refV (A0 : FVec Ideal S2x1024x1024 .bf16) (A1 : FVec Ideal S1024x1024 .bf16) (A2 : FVec Ideal S1024 .bf16) : FVec Ideal S1024x1024 .bf16 :=
  truncf .bf16 (mulf (Host.divf (addf (Host.reduceAdd (extf .f32 A0 bitsLt_bf16_f32) (constant S_ .f32 0x00000000#32) reducesTo_S2x1024x1024_S1024x1024_d0 h_S_) (extf .f32 A1 bitsLt_bf16_f32)) (broadcastInDim S1024x1024 ![0, 1] bcast_S1024x1_S1024x1024_0_1 (Host.sqrt (addf (Host.divf (broadcastInDim S1024x1 ![0] bcast_S1024_S1024x1_0 (Host.reduceAdd (mulf (addf (Host.reduceAdd (extf .f32 A0 bitsLt_bf16_f32) (constant S_ .f32 0x00000000#32) reducesTo_S2x1024x1024_S1024x1024_d0 h_S_) (extf .f32 A1 bitsLt_bf16_f32)) (addf (Host.reduceAdd (extf .f32 A0 bitsLt_bf16_f32) (constant S_ .f32 0x00000000#32) reducesTo_S2x1024x1024_S1024x1024_d0 h_S_) (extf .f32 A1 bitsLt_bf16_f32))) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x358637BD#32)))))) (broadcastInDim S1024x1024 ![0, 1] bcast_S1x1024_S1024x1024_0_1 (broadcastInDim S1x1024 ![1] bcast_S1024_S1x1024_1 (extf .f32 A2 bitsLt_bf16_f32)))) bitsLt_bf16_f32

theorem ref_at (A0 : FVec Ideal S2x1024x1024 .bf16) (A1 : FVec Ideal S1024x1024 .bf16) (A2 : FVec Ideal S1024 .bf16) (r : Fin 1024) (l : Fin 1024) :
    refV A0 A1 A2 (ix2 r l) = normed (fun k => A0 (ix3 0 r k) + A0 (ix3 1 r k) + A1 (ix2 r k)) (A2 (ix1 l)) l := by
  unfold normed meanSq
  pointwise [refV]
  simp only [Fin.sum_univ_two]

end Ref

/-- Every device's result is the reference's. -/
theorem res_eq (m : (ℓ : Loc Cert.KernelIdeal.nD Cert.KernelIdeal.τ Cert.KernelIdeal.sig) → Buf (Elt Ideal) ℓ)
    (A0 : FVec Ideal ⟨3, ![2, 1024, 1024]⟩ .bf16) (A1 : FVec Ideal ⟨2, ![1024, 1024]⟩ .bf16) (A2 : FVec Ideal ⟨1, ![1024]⟩ .bf16)
    (h : Agree m A0 A1 A2) (c : Dev Cert.KernelIdeal.nD) :
    Cert.KernelIdeal.Proof.res (Cert.KernelIdeal.Proof.entry m) c = refV A0 A1 A2 := by
  funext x
  rw [eq_ix2 x]
  exact (res_at m A0 A1 A2 h c (x 0) (x 1)).trans (ref_at A0 A1 A2 (x 0) (x 1)).symm

end Cert.Proof

end
-- ==== Proof.lean ====
/-
  The certificate's claim, put together: both runs of the kernel, the reference's run, and the equality of
  their results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts

theorem frame_kernel : Cert.quiescent_Kernel := fun m g _ =>
  (θ_run (Cert.Kernel.defs (F := Bits)) _ _).mono (fun _ h => ⟨fun c => (h.1 c).2, h.2⟩) (Cert.Kernel.Proof.run_main m g)

theorem frame_kernelIdeal : Cert.quiescent_KernelIdeal := fun m g _ =>
  (θ_run (Cert.KernelIdeal.defs (F := Ideal)) _ _).mono (fun _ h => ⟨fun c => (h.1 c).2, h.2⟩) (Cert.KernelIdeal.Proof.run_main m g)

/-- The reference has no semaphore. -/
theorem frame_reference : Cert.quiescent_ReferenceIdeal := fun m g _ =>
  (θ_run (Cert.ReferenceIdeal.defs (F := Ideal)) _ _).mono (fun r h => ⟨fun c => (h c).2, sem_eq_zero_of_no_sems rfl r.2⟩)
    (Cert.ReferenceIdeal.Value.run m g)

/-- On every device the kernel's result is the reference's. -/
theorem value : Cert.algebraic_KernelIdeal_ReferenceIdeal := fun m g m' g' _ h =>
  ⟨refV (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)),
    (θ_run (Cert.KernelIdeal.defs (F := Ideal)) _ _).mono (fun _ r c => ⟨(r.1 c).1.trans (res_eq m _ _ _ h c), (r.1 c).2⟩)
      (Cert.KernelIdeal.Proof.run_main m g),
    (θ_run (Cert.ReferenceIdeal.defs (F := Ideal)) _ _).mono (fun _ r => r 0) (Cert.ReferenceIdeal.Value.run m' g')⟩

theorem claim : Cert.Claim :=
  ⟨Cert.Kernel.Gen.facts, Cert.KernelIdeal.Gen.facts, Cert.ReferenceIdeal.Gen.facts,
    frame_kernel, frame_kernelIdeal, frame_reference, trivial, value⟩

end Cert.Proof

end
